-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 64]⟩ ⟨2, ![1024, 256]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S2x256x1024 1 × IVec S1024x64 1 × IVec S64x1024 1 × IVec S1024x1024 1 × IVec S1024x512 1 × IVec S1024x32 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  let main_v6 : FVec F S64x1024 .f32 := Host.absf main_arg2
  let main_cst_1 : FVec F S_ .f32 := constant S_ .f32 0x7F800000#32
  let main_v7 : FVec F S64x1024 .f32 := broadcastInDim S64x1024 ![] bcast_S_S64x1024 main_cst_1
  let main_v8 : IVec S64x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024x32 .f32 := Host.absf main_arg6
  let main_cst_4 : FVec F S_ .f32 := constant S_ .f32 0x7F800000#32
  let main_v16 : FVec F S1024x32 .f32 := broadcastInDim S1024x32 ![] bcast_S_S1024x32 main_cst_4
  let main_v17 : IVec S1024x32 1 := cmpf .olt main_v15 main_v16
  (main_v2, main_v5, main_v8, main_v11, main_v14, main_v17)
-- ==== Pre_scores_finite_ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x256 : S_.BroadcastsInDim S1024x256 (![] : Fin 0 → Fin S1024x256.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .f32) (main_arg1 : FVec F S1024x256 .f32) (main_arg2 : FVec F S256x1024 .f32) (main_arg3 : FVec F S256x1024 .f32) (main_arg4 : FVec F S1024x1024 .f32) (main_arg5 : FVec F S1024x512 .f32) (main_arg6 : FVec F S1024x32 .f32) (main_arg7 : FVec F S1024x1024 .f32) : IVec S2x256x1024 1 × IVec S1024x256 1 × IVec S256x1024 1 × IVec S1024x1024 1 × IVec S1024x512 1 × IVec S1024x32 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x512 .f32 := Host.absf main_arg5
  let main_cst_3 : FVec F S_ .f32 := constant S_ .f32 0x7F800000#32
  let main_v13 : FVec F S1024x512 .f32 := broadcastInDim S1024x512 ![] bcast_S_S1024x512 main_cst_3
  let main_v14 : IVec S1024x512 1 := cmpf .olt main_v12 main_v13
  let main_v15 : FVec F S1024x32 .f32 := Host.absf main_arg6
  let main_cst_4 : FVec F S_ .f32 := constant S_ .f32 0x7F800000#32
  let main_v16 : FVec F S1024x32 .f32 := broadcastInDim S1024x32 ![] bcast_S_S1024x32 main_cst_4
  let main_v17 : IVec S1024x32 1 := cmpf .olt main_v15 main_v16
  (main_v2, main_v5, main_v8, main_v11, main_v14, main_v17)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S4x512x64 : Shape := ⟨3, ![4, 512, 64]⟩
abbrev S4x64x1024 : Shape := ⟨3, ![4, 64, 1024]⟩
abbrev S512x1024 : Shape := ⟨2, ![512, 1024]⟩
abbrev S3x3 : Shape := ⟨2, ![3, 3]⟩
abbrev S512x64 : Shape := ⟨2, ![512, 64]⟩
abbrev S1x512x64 : Shape := ⟨3, ![1, 512, 64]⟩
abbrev S1x64x1024 : Shape := ⟨3, ![1, 64, 1024]⟩
abbrev S_ : Shape := ⟨0, ![]⟩
abbrev S1x1 : Shape := ⟨2, ![1, 1]⟩
abbrev S512x512 : Shape := ⟨2, ![512, 512]⟩
abbrev S512x32 : Shape := ⟨2, ![512, 32]⟩
abbrev S256x32 : Shape := ⟨2, ![256, 32]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S4x512x64, .bf16⟩
  | .local _ .vmem, ⟨10, _⟩ => ⟨S4x64x1024, .fp8e4m3⟩
  | .local _ .vmem, ⟨11, _⟩ => ⟨S4x64x1024, .bf16⟩
  | .local _ .vmem, ⟨12, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v28 : BitVec 32 := Scalar.addi v2 c1_i32_18
  let c4_i32_19 : BitVec 32 := 4#32
  let v29 : BitVec 32 := Scalar.remsi v28 c4_i32_19
  let c1_i32_21 : BitVec 32 := 1#32
  let v30 : BitVec 32 := Scalar.muli v29 c1_i32_21
  let v31 : BitVec 32 := Scalar.addi c0_i32 v30
  v31.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v32 : BitVec 32 := Scalar.addi v2 c2_i32
  let c4_i32_22 : BitVec 32 := 4#32
  let v33 : BitVec 32 := Scalar.remsi v32 c4_i32_22
  let c1_i32_24 : BitVec 32 := 1#32
  let v34 : BitVec 32 := Scalar.muli v33 c1_i32_24
  let v35 : BitVec 32 := Scalar.addi c0_i32_25 v34
  v35.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v36 : BitVec 32 := Scalar.addi v2 c3_i32
  let c4_i32_26 : BitVec 32 := 4#32
  let v37 : BitVec 32 := Scalar.remsi v36 c4_i32_26
  let c1_i32_28 : BitVec 32 := 1#32
  let v38 : BitVec 32 := Scalar.muli v37 c1_i32_28
  let v39 : BitVec 32 := Scalar.addi c0_i32_29 v38
  v39.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v40 : BitVec 32 := Scalar.addi v2 c1_i32_31
  let c4_i32_32 : BitVec 32 := 4#32
  let v41 : BitVec 32 := Scalar.remsi v40 c4_i32_32
  let c1_i32_39 : BitVec 32 := 1#32
  let v42 : BitVec 32 := Scalar.muli v41 c1_i32_39
  let v43 : BitVec 32 := Scalar.addi c0_i32_40 v42
  v43.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v40 : BitVec 32 := Scalar.addi v2 c1_i32_31
  let c4_i32_32 : BitVec 32 := 4#32
  let v41 : BitVec 32 := Scalar.remsi v40 c4_i32_32
  let c1_i32_51 : BitVec 32 := 1#32
  let v52 : BitVec 32 := Scalar.muli v41 c1_i32_51
  let v53 : BitVec 32 := Scalar.addi c0_i32_52 v52
  v53.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v40 : BitVec 32 := Scalar.addi v2 c1_i32_31
  let c4_i32_32 : BitVec 32 := 4#32
  let v41 : BitVec 32 := Scalar.remsi v40 c4_i32_32
  let c1_i32_63 : BitVec 32 := 1#32
  let v62 : BitVec 32 := Scalar.muli v41 c1_i32_63
  let v63 : BitVec 32 := Scalar.addi c0_i32_64 v62
  v63.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v72 : BitVec 32 := Scalar.addi v2 c2_i32_69
  let c4_i32_70 : BitVec 32 := 4#32
  let v73 : BitVec 32 := Scalar.remsi v72 c4_i32_70
  let c1_i32_77 : BitVec 32 := 1#32
  let v74 : BitVec 32 := Scalar.muli v73 c1_i32_77
  let v75 : BitVec 32 := Scalar.addi c0_i32_78 v74
  v75.toNat
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v72 : BitVec 32 := Scalar.addi v2 c2_i32_69
  let c4_i32_70 : BitVec 32 := 4#32
  let v73 : BitVec 32 := Scalar.remsi v72 c4_i32_70
  let c1_i32_89 : BitVec 32 := 1#32
  let v84 : BitVec 32 := Scalar.muli v73 c1_i32_89
  let v85 : BitVec 32 := Scalar.addi c0_i32_90 v84
  v85.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_69 : BitVec 32 := 2#32
  let v72 : BitVec 32 := Scalar.addi v2 c2_i32_69
  let c4_i32_70 : BitVec 32 := 4#32
  let v73 : BitVec 32 := Scalar.remsi v72 c4_i32_70
  let c1_i32_101 : BitVec 32 := 1#32
  let v94 : BitVec 32 := Scalar.muli v73 c1_i32_101
  let v95 : BitVec 32 := Scalar.addi c0_i32_102 v94
  v95.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_107 : BitVec 32 := 3#32
  let v104 : BitVec 32 := Scalar.addi v2 c3_i32_107
  let c4_i32_108 : BitVec 32 := 4#32
  let v105 : BitVec 32 := Scalar.remsi v104 c4_i32_108
  let c1_i32_115 : BitVec 32 := 1#32
  let v106 : BitVec 32 := Scalar.muli v105 c1_i32_115
  let v107 : BitVec 32 := Scalar.addi c0_i32_116 v106
  v107.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_107 : BitVec 32 := 3#32
  let v104 : BitVec 32 := Scalar.addi v2 c3_i32_107
  let c4_i32_108 : BitVec 32 := 4#32
  let v105 : BitVec 32 := Scalar.remsi v104 c4_i32_108
  let c1_i32_127 : BitVec 32 := 1#32
  let v116 : BitVec 32 := Scalar.muli v105 c1_i32_127
  let v117 : BitVec 32 := Scalar.addi c0_i32_128 v116
  v117.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_107 : BitVec 32 := 3#32
  let v104 : BitVec 32 := Scalar.addi v2 c3_i32_107
  let c4_i32_108 : BitVec 32 := 4#32
  let v105 : BitVec 32 := Scalar.remsi v104 c4_i32_108
  let c1_i32_139 : BitVec 32 := 1#32
  let v126 : BitVec 32 := Scalar.muli v105 c1_i32_139
  let v127 : BitVec 32 := Scalar.addi c0_i32_140 v126
  v127.toNat
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S2x256x256 : Shape := ⟨3, ![2, 256, 256]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x256, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x256, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Protocol.lean ====
/-
# The exchange of the latent blocks: cells, contents and the schedule

Every device holds one block of the latent (512 x 64) and one row block of each of the two up
projections (64 x 1024), and sends all three to every other device, into the slot numbered by
the distance travelled.

* The runtime's barrier: each device signals each of the other three once and waits for three.
  The signal that device `c` sends to the device `o + 1` places on hands over the slot of `c`
  into which that device will copy.
* For every buffer `ti` and every distance `o`, one send semaphore (the copy has left, the share
  of slot 0 comes back) and one receive semaphore (the copy has arrived: slot `o + 1` holds the
  sender's block).
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-- The exchange's rounds, a cell having up to three duties; beside them the pipeline's. -/
abbrev UE : Type := URounds (GSem nD τ sig) (Fin 3)
abbrev UU : Type := UR sig nD τ × UE

local notation "𝕄" => MT nD τ sig Unit (Elt F) ℕ UU ℕ

abbrev EP : Emb (UR sig nD τ) (MT nD τ sig Unit (Elt F) ℕ UU ℕ) := embL
abbrev ER : Emb UE (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring -/

/-- The device `o + 1` places on. -/
def nb (o : Fin 3) (c : Dev nD) : Dev nD := ⟨(c.val + (o.val + 1)) % 4, Nat.mod_lt _ (by decide)⟩

/-- The way back is the complementary distance. -/
abbrev rv (o : Fin 3) : Fin 3 := Fin.rev o

theorem nb_rv (o : Fin 3) (c : Dev nD) : nb (rv o) (nb o c) = c := by revert o c; decide
theorem nb_rv' (o : Fin 3) (c : Dev nD) : nb o (nb (rv o) c) = c := by revert o c; decide

/-- Moving `o + 1` places on permutes the devices. -/
def turn (o : Fin 3) : Dev nD ≃ Dev nD := ⟨nb o, nb (rv o), nb_rv o, nb_rv' o⟩

theorem dev1_eq (c : Dev nD) : (⟨k0_dev1 c, k0_dev1_lt c⟩ : Dev nD) = nb 0 c := Fin.ext (k0_dev1_eq c)
theorem dev2_eq (c : Dev nD) : (⟨k0_dev2 c, k0_dev2_lt c⟩ : Dev nD) = nb 1 c := Fin.ext (k0_dev2_eq c)
theorem dev3_eq (c : Dev nD) : (⟨k0_dev3 c, k0_dev3_lt c⟩ : Dev nD) = nb 2 c := Fin.ext (k0_dev3_eq c)
theorem dev4_eq (c : Dev nD) : (⟨k0_dev4 c, k0_dev4_lt c⟩ : Dev nD) = nb 0 c := Fin.ext (k0_dev4_eq c)
theorem dev5_eq (c : Dev nD) : (⟨k0_dev5 c, k0_dev5_lt c⟩ : Dev nD) = nb 0 c := Fin.ext (k0_dev5_eq c)
theorem dev6_eq (c : Dev nD) : (⟨k0_dev6 c, k0_dev6_lt c⟩ : Dev nD) = nb 0 c := Fin.ext (k0_dev6_eq c)
theorem dev7_eq (c : Dev nD) : (⟨k0_dev7 c, k0_dev7_lt c⟩ : Dev nD) = nb 1 c := Fin.ext (k0_dev7_eq c)
theorem dev8_eq (c : Dev nD) : (⟨k0_dev8 c, k0_dev8_lt c⟩ : Dev nD) = nb 1 c := Fin.ext (k0_dev8_eq c)
theorem dev9_eq (c : Dev nD) : (⟨k0_dev9 c, k0_dev9_lt c⟩ : Dev nD) = nb 1 c := Fin.ext (k0_dev9_eq c)
theorem dev10_eq (c : Dev nD) : (⟨k0_dev10 c, k0_dev10_lt c⟩ : Dev nD) = nb 2 c := Fin.ext (k0_dev10_eq c)
theorem dev11_eq (c : Dev nD) : (⟨k0_dev11 c, k0_dev11_lt c⟩ : Dev nD) = nb 2 c := Fin.ext (k0_dev11_eq c)
theorem dev12_eq (c : Dev nD) : (⟨k0_dev12 c, k0_dev12_lt c⟩ : Dev nD) = nb 2 c := Fin.ext (k0_dev12_eq c)

/-! ## The cells -/

abbrev barS : Sem sig := sig.barrier 0 rfl
/-- The semaphore on which the copy of buffer `ti` over distance `o + 1` leaves, and that on which it arrives. -/
abbrev sendS (ti o : Fin 3) : DmaSem sig := ⟨9 + (3 * ti.val + o.val), by show _ < 27; omega⟩
abbrev recvS (ti o : Fin 3) : DmaSem sig := ⟨18 + (3 * ti.val + o.val), by show _ < 27; omega⟩

abbrev barCell (c : Dev nD) : GSem nD τ sig := ((c : Thread nD τ), .reg barS)
abbrev sendCell (c : Dev nD) (ti o : Fin 3) : GSem nD τ sig := ((c : Thread nD τ), .dma (sendS ti o))
abbrev recvCell (c : Dev nD) (ti o : Fin 3) : GSem nD τ sig := ((c : Thread nD τ), .dma (recvS ti o))

/-- The region's own semaphores: the nine of the sends, then the nine of the receives. -/
abbrev osem : Fin 18 → SemLoc sig := fun j => .dma ⟨9 + j.val, by show _ < 27; omega⟩
/-- All cells of a device: the barrier first. -/
abbrev csem : Fin 19 → SemLoc sig := Fin.cases (.reg barS) osem
abbrev kcell (ck : Dev nD × Fin 19) : GSem nD τ sig := ((ck.1 : Thread nD τ), csem ck.2)

abbrev ixS (ti o : Fin 3) : Fin 19 := Fin.succ ⟨3 * ti.val + o.val, by omega⟩
abbrev ixR (ti o : Fin 3) : Fin 19 := Fin.succ ⟨9 + (3 * ti.val + o.val), by omega⟩
theorem kcell_bar (c : Dev nD) : kcell (c, 0) = barCell c := rfl
theorem kcell_send (c : Dev nD) (ti o : Fin 3) : kcell (c, ixS ti o) = sendCell c ti o := rfl
theorem kcell_recv (c : Dev nD) (ti o : Fin 3) : kcell (c, ixR ti o) = recvCell c ti o := by
  fin_cases ti <;> fin_cases o <;> rfl

/-- What one copy of buffer `ti` counts on its semaphores. -/
abbrev Ncr : Fin 3 → ℕ
  | 0 => RefSig.tileCredit S512x64 .bf16
  | 1 => RefSig.tileCredit S64x1024 .fp8e4m3
  | 2 => RefSig.tileCredit S64x1024 .bf16
theorem Ncr_pos (ti : Fin 3) : 0 < Ncr ti := by
  fin_cases ti <;> exact RefSig.tileCredit_pos _ _ (by decide)

/-! ## Slots and their contents -/

section Slots
variable {A B : ℕ} {α : Type}

/-- The elements of slot `s` of a buffer of four slots. -/
def slotSet (A B s : ℕ) : Finset (Shape.Idx (⟨3, ![4, A, B]⟩ : Shape)) := Finset.univ.filter fun i => (i (0 : Fin 3)).val = s

theorem mem_slotSet {s : ℕ} {i : Shape.Idx (⟨3, ![4, A, B]⟩ : Shape)} : i ∈ slotSet A B s ↔ (i (0 : Fin 3)).val = s := by
  unfold slotSet; rw [Finset.mem_filter]; exact ⟨fun h => h.2, fun h => ⟨Finset.mem_univ _, h⟩⟩

/-- An index of the buffer, its slot forgotten. -/
def flatIdx (i : Shape.Idx (⟨3, ![4, A, B]⟩ : Shape)) : Shape.Idx (⟨3, ![1, A, B]⟩ : Shape)
  | ⟨0, _⟩ => ⟨0, Nat.one_pos⟩
  | ⟨1, _⟩ => i (1 : Fin 3)
  | ⟨2, _⟩ => i (2 : Fin 3)

/-- A block `X` in every slot: what a slot holds is read off without naming the slot. -/
def bc (X : Shape.Idx (⟨3, ![1, A, B]⟩ : Shape) → α) : Shape.Idx (⟨3, ![4, A, B]⟩ : Shape) → α := fun i => X (flatIdx i)

theorem bc_congr (X : Shape.Idx (⟨3, ![1, A, B]⟩ : Shape) → α) {i j : Shape.Idx (⟨3, ![4, A, B]⟩ : Shape)}
    (h1 : (i (1 : Fin 3)).val = (j (1 : Fin 3)).val) (h2 : (i (2 : Fin 3)).val = (j (2 : Fin 3)).val) : bc X i = bc X j := by
  unfold bc; congr 1; funext a
  match a with
  | ⟨0, _⟩ => rfl
  | ⟨1, _⟩ => exact Fin.ext h1
  | ⟨2, _⟩ => exact Fin.ext h2

/-- The rectangle of slot `s`. -/
abbrev slotRect (A B s : ℕ) (h : ∀ a, (![s, 0, 0] : Fin 3 → Nat) a + (![1, A, B] : Fin 3 → ℕ) a ≤ (⟨3, ![4, A, B]⟩ : Shape).size a) : Rect (⟨3, ![4, A, B]⟩ : Shape) :=
  Rect.unit (s := (⟨3, ![4, A, B]⟩ : Shape)) ![s, 0, 0] ![1, A, B] h

variable {s : ℕ} (h : ∀ a, (![s, 0, 0] : Fin 3 → Nat) a + (![1, A, B] : Fin 3 → ℕ) a ≤ (⟨3, ![4, A, B]⟩ : Shape).size a)

theorem slotRect_emb (x : (slotRect A B s h).shape.Idx) (a : Fin 3) :
    (((slotRect A B s h).emb x) a).val = (![s, 0, 0] : Fin 3 → Nat) a + (x a).val := by
  show (![s, 0, 0] : Fin 3 → Nat) a + 1 * (x a).val = _
  rw [Nat.one_mul]

theorem slotRect_set : (slotRect A B s h).set = slotSet A B s := by
  ext i
  rw [mem_slotSet, Rect.mem_set_unit]
  refine ⟨fun H => ?_, fun H a => ?_⟩
  · have h0 := H (0 : Fin 3)
    have h1 : s ≤ (i (0 : Fin 3)).val := h0.1
    have h2 : (i (0 : Fin 3)).val < s + 1 := h0.2
    omega
  · match a with
    | ⟨0, _⟩ => exact ⟨Nat.le_of_eq H.symm, Nat.lt_succ_of_le (Nat.le_of_eq H)⟩
    | ⟨1, _⟩ => exact ⟨Nat.zero_le _, lt_of_lt_of_eq (i (1 : Fin 3)).isLt (Nat.zero_add _).symm⟩
    | ⟨2, _⟩ => exact ⟨Nat.zero_le _, lt_of_lt_of_eq (i (2 : Fin 3)).isLt (Nat.zero_add _).symm⟩

theorem bc_slot (X : Shape.Idx (⟨3, ![1, A, B]⟩ : Shape) → α) (x : (slotRect A B s h).shape.Idx) : bc X ((slotRect A B s h).emb x) = X x := by
  unfold bc; congr 1; funext a
  match a with
  | ⟨0, _⟩ => exact Fin.ext (by have : (x (0 : Fin 3)).val < 1 := (x (0 : Fin 3)).isLt; show 0 = (x (0 : Fin 3)).val; omega)
  | ⟨1, _⟩ => exact Fin.ext ((slotRect_emb h x 1).trans (Nat.zero_add _))
  | ⟨2, _⟩ => exact Fin.ext ((slotRect_emb h x 2).trans (Nat.zero_add _))

end Slots

/-! ### The slots as views -/

/-- Slot `s` of the three exchanged buffers, as the copies name it. -/
abbrev sl0 (s : ℕ) (h : ∀ a, (![s, 0, 0] : Fin 3 → Nat) a + S1x512x64.size a ≤ S4x512x64.size a) : Memref sig .tc .vmem S512x64 .bf16 :=
  ((Memref.whole cc0_scratch0).slice (Rect.unit (s := S4x512x64) ![s, 0, 0] S1x512x64.size h) (fun _ => rfl)).squeeze S512x64 squeezes_S1x512x64_S512x64
abbrev sl1 (s : ℕ) (h : ∀ a, (![s, 0, 0] : Fin 3 → Nat) a + S1x64x1024.size a ≤ S4x64x1024.size a) : Memref sig .tc .vmem S64x1024 .fp8e4m3 :=
  ((Memref.whole cc0_scratch1).slice (Rect.unit (s := S4x64x1024) ![s, 0, 0] S1x64x1024.size h) (fun _ => rfl)).squeeze S64x1024 squeezes_S1x64x1024_S64x1024
abbrev sl2 (s : ℕ) (h : ∀ a, (![s, 0, 0] : Fin 3 → Nat) a + S1x64x1024.size a ≤ S4x64x1024.size a) : Memref sig .tc .vmem S64x1024 .bf16 :=
  ((Memref.whole cc0_scratch2).slice (Rect.unit (s := S4x64x1024) ![s, 0, 0] S1x64x1024.size h) (fun _ => rfl)).squeeze S64x1024 squeezes_S1x64x1024_S64x1024

theorem sl0_set (s : ℕ) (h) : (sl0 s h).view.set = slotSet 512 64 s := by
  refine (View.set_reshape _ _).trans ?_
  exact (View.set_slice_whole cc0_scratch0 _).trans (slotRect_set h)
theorem sl1_set (s : ℕ) (h) : (sl1 s h).view.set = slotSet 64 1024 s := by
  refine (View.set_reshape _ _).trans ?_
  exact (View.set_slice_whole cc0_scratch1 _).trans (slotRect_set h)
theorem sl2_set (s : ℕ) (h) : (sl2 s h).view.set = slotSet 64 1024 s := by
  refine (View.set_reshape _ _).trans ?_
  exact (View.set_slice_whole cc0_scratch2 _).trans (slotRect_set h)

/-- Writing through a view what another one reads leaves, under it, contents that read the same. -/
theorem write_read_agree {Val : EltTy → Type} {κ κ' : Kind} {sp sp' : Space} {s : Shape} {e : EltTy} (src : View sig κ sp s e) (dst : View sig κ' sp' s e)
    (f : src.ty.Contents Val) (fd g : dst.ty.Contents Val) (h : ∀ x, src.read Val f x = dst.read Val g x) :
    ∀ i ∈ dst.set, dst.write Val fd (src.read Val f) Finset.univ i = g i := by
  intro i hi
  obtain ⟨x, -, rfl⟩ := Finset.mem_map.mp hi
  rw [View.write_emb_of_mem _ _ (Finset.mem_univ x), h, View.read_apply]
  simp

theorem copy0 (s : ℕ) (h h') (X : Vec F S1x512x64 .bf16) (fd) :
    ∀ i ∈ (sl0 s h).view.set, (sl0 s h).view.write (Elt F) fd ((sl0 0 h').view.read (Elt F) (bc X)) Finset.univ i = bc X i :=
  write_read_agree (sl0 0 h').view (sl0 s h).view _ _ (bc X) fun x => bc_congr X (by rfl) (by rfl)
theorem copy1 (s : ℕ) (h h') (X : Vec F S1x64x1024 .fp8e4m3) (fd) :
    ∀ i ∈ (sl1 s h).view.set, (sl1 s h).view.write (Elt F) fd ((sl1 0 h').view.read (Elt F) (bc X)) Finset.univ i = bc X i :=
  write_read_agree (sl1 0 h').view (sl1 s h).view _ _ (bc X) fun x => bc_congr X (by rfl) (by rfl)
theorem copy2 (s : ℕ) (h h') (X : Vec F S1x64x1024 .bf16) (fd) :
    ∀ i ∈ (sl2 s h).view.set, (sl2 s h).view.write (Elt F) fd ((sl2 0 h').view.read (Elt F) (bc X)) Finset.univ i = bc X i :=
  write_read_agree (sl2 0 h').view (sl2 s h).view _ _ (bc X) fun x => bc_congr X (by rfl) (by rfl)

/-- Loading slot `s` of contents that are a block in every slot gives the block. -/
theorem load0 (s : ℕ) (h) (X : Vec F S1x512x64 .bf16) :
    (Memref.whole cc0_scratch0).view.readAt (Elt F) (Rect.unit (s := S4x512x64) ![s, 0, 0] S1x512x64.size h).toLoadRect (bc X) = X :=
  funext fun x => bc_slot h X x
theorem load1 (s : ℕ) (h) (X : Vec F S1x64x1024 .fp8e4m3) :
    (Memref.whole cc0_scratch1).view.readAt (Elt F) (Rect.unit (s := S4x64x1024) ![s, 0, 0] S1x64x1024.size h).toLoadRect (bc X) = X :=
  funext fun x => bc_slot h X x
theorem load2 (s : ℕ) (h) (X : Vec F S1x64x1024 .bf16) :
    (Memref.whole cc0_scratch2).view.readAt (Elt F) (Rect.unit (s := S4x64x1024) ![s, 0, 0] S1x64x1024.size h).toLoadRect (bc X) = X :=
  funext fun x => bc_slot h X x

/-- Storing a block at slot `s` leaves there the contents that are the block in every slot. -/
theorem store_agree {Val : EltTy → Type} {κ : Kind} {sp : Space} {s : Shape} {e : EltTy} (v : View sig κ sp s e) (f g : v.ty.Contents Val) (w : s.Idx → Val e)
    (h : ∀ x, w x = v.read Val g x) : ∀ i ∈ v.set, v.write Val f w Finset.univ i = g i := by
  intro i hi
  obtain ⟨x, -, rfl⟩ := Finset.mem_map.mp hi
  rw [View.write_emb_of_mem _ _ (Finset.mem_univ x), h, View.read_apply]
  simp

theorem acc0_set (s : ℕ) (h) : ((Memref.whole cc0_scratch0).access (Rect.unit (s := S4x512x64) ![s, 0, 0] S1x512x64.size h)).set = slotSet 512 64 s :=
  (View.set_slice_whole cc0_scratch0 _).trans (slotRect_set h)
theorem acc1_set (s : ℕ) (h) : ((Memref.whole cc0_scratch1).access (Rect.unit (s := S4x64x1024) ![s, 0, 0] S1x64x1024.size h)).set = slotSet 64 1024 s :=
  (View.set_slice_whole cc0_scratch1 _).trans (slotRect_set h)
theorem acc2_set (s : ℕ) (h) : ((Memref.whole cc0_scratch2).access (Rect.unit (s := S4x64x1024) ![s, 0, 0] S1x64x1024.size h)).set = slotSet 64 1024 s :=
  (View.set_slice_whole cc0_scratch2 _).trans (slotRect_set h)

theorem store0 (s : ℕ) (h) (X : Vec F S1x512x64 .bf16) (f) : ∀ i ∈ slotSet 512 64 s,
    ((Memref.whole cc0_scratch0).access (Rect.unit (s := S4x512x64) ![s, 0, 0] S1x512x64.size h)).write (Elt F) f X Finset.univ i = bc X i :=
  (acc0_set s h) ▸ store_agree ((Memref.whole cc0_scratch0).access (Rect.unit (s := S4x512x64) ![s, 0, 0] S1x512x64.size h)) f (bc X) X
    fun x => (bc_slot h X x).symm
theorem store1 (s : ℕ) (h) (X : Vec F S1x64x1024 .fp8e4m3) (f) : ∀ i ∈ slotSet 64 1024 s,
    ((Memref.whole cc0_scratch1).access (Rect.unit (s := S4x64x1024) ![s, 0, 0] S1x64x1024.size h)).write (Elt F) f X Finset.univ i = bc X i :=
  (acc1_set s h) ▸ store_agree ((Memref.whole cc0_scratch1).access (Rect.unit (s := S4x64x1024) ![s, 0, 0] S1x64x1024.size h)) f (bc X) X
    fun x => (bc_slot h X x).symm
theorem store2 (s : ℕ) (h) (X : Vec F S1x64x1024 .bf16) (f) : ∀ i ∈ slotSet 64 1024 s,
    ((Memref.whole cc0_scratch2).access (Rect.unit (s := S4x64x1024) ![s, 0, 0] S1x64x1024.size h)).write (Elt F) f X Finset.univ i = bc X i :=
  (acc2_set s h) ▸ store_agree ((Memref.whole cc0_scratch2).access (Rect.unit (s := S4x64x1024) ![s, 0, 0] S1x64x1024.size h)) f (bc X) X
    fun x => (bc_slot h X x).symm

/-! ## What each device starts from -/

def in0 (c : Dev nD) : Vec F S2x256x1024 .f32 := (win0_0.blk (0 : Fin 1)).view.read (Elt F) ((s₀ m ρ).mem ((c : Thread nD τ).loc main_arg0))
def in1 (c : Dev nD) : Vec F S1024x64 .f32 := (win0_1.blk (0 : Fin 1)).view.read (Elt F) ((s₀ m ρ).mem ((c : Thread nD τ).loc main_arg1))
def in2 (c : Dev nD) : Vec F S64x1024 .f32 := (win0_2.blk (0 : Fin 1)).view.read (Elt F) ((s₀ m ρ).mem ((c : Thread nD τ).loc main_arg2))
def in3 (c : Dev nD) : Vec F S64x1024 .f32 := (win0_3.blk (0 : Fin 1)).view.read (Elt F) ((s₀ m ρ).mem ((c : Thread nD τ).loc main_arg3))
def in4 (c : Dev nD) : Vec F S1024x1024 .f32 := (win0_4.blk (0 : Fin 1)).view.read (Elt F) ((s₀ m ρ).mem ((c : Thread nD τ).loc main_arg4))
def in5 (c : Dev nD) : Vec F S1024x512 .f32 := (win0_5.blk (0 : Fin 1)).view.read (Elt F) ((s₀ m ρ).mem ((c : Thread nD τ).loc main_arg5))
def in6 (c : Dev nD) : Vec F S1024x32 .f32 := (win0_6.blk (0 : Fin 1)).view.read (Elt F) ((s₀ m ρ).mem ((c : Thread nD τ).loc main_arg6))
def in7 (c : Dev nD) : Vec F S1024x1024 .f32 := (win0_7.blk (0 : Fin 1)).view.read (Elt F) ((s₀ m ρ).mem ((c : Thread nD τ).loc main_arg7))

/-- The three blocks a device sends: of the latent, of the key projection, of the value projection. -/
def X0 (c : Dev nD) : Vec F S1x512x64 .bf16 := k0_pay2 (in0 m ρ c) (in1 m ρ c)
def X1 (c : Dev nD) : Vec F S1x64x1024 .fp8e4m3 := k0_pay3 (in2 m ρ c)
def X2 (c : Dev nD) : Vec F S1x64x1024 .bf16 := k0_pay4 (in3 m ρ c)

/-- Slot `s` of buffer `ti` on device `c`, holding device `c'`'s block; -/
def slotPts (c c' : Dev nD) : (ti : Fin 3) → (s : ℕ) → (q : PosShare TreeShare) → sProp 𝕄
  | 0, s, q => ((c : Thread nD τ).loc cc0_scratch0) ↦[slotSet 512 64 s]{q} (bc (X0 m ρ c') : Buf (Elt F) ((c : Thread nD τ).loc cc0_scratch0))
  | 1, s, q => ((c : Thread nD τ).loc cc0_scratch1) ↦[slotSet 64 1024 s]{q} (bc (X1 m ρ c') : Buf (Elt F) ((c : Thread nD τ).loc cc0_scratch1))
  | 2, s, q => ((c : Thread nD τ).loc cc0_scratch2) ↦[slotSet 64 1024 s]{q} (bc (X2 m ρ c') : Buf (Elt F) ((c : Thread nD τ).loc cc0_scratch2))
/-- or anything at all. -/
def slotAny (c : Dev nD) : (ti : Fin 3) → (s : ℕ) → sProp 𝕄
  | 0, s => iprop(∃ f : Buf (Elt F) ((c : Thread nD τ).loc cc0_scratch0), ((c : Thread nD τ).loc cc0_scratch0) ↦[slotSet 512 64 s]{fullShare} f)
  | 1, s => iprop(∃ f : Buf (Elt F) ((c : Thread nD τ).loc cc0_scratch1), ((c : Thread nD τ).loc cc0_scratch1) ↦[slotSet 64 1024 s]{fullShare} f)
  | 2, s => iprop(∃ f : Buf (Elt F) ((c : Thread nD τ).loc cc0_scratch2), ((c : Thread nD τ).loc cc0_scratch2) ↦[slotSet 64 1024 s]{fullShare} f)

instance slotPts_storable (c c' : Dev nD) (ti : Fin 3) (s : ℕ) (q) : BI.Storable (upEmb : UEmb _ 𝕄) (slotPts m ρ c c' ti s q) := by
  unfold slotPts; split <;> infer_instance
instance slotAny_storable (c : Dev nD) (ti : Fin 3) (s : ℕ) : BI.Storable (upEmb : UEmb _ 𝕄) (slotAny (F := F) c ti s) := by
  unfold slotAny; split <;> infer_instance

/-! ## The schedule -/

/-- What the signal of the device `o + 1` places on hands device `c`: the slot of that device `c` copies into. -/
def barPay (c : Dev nD) (o : Fin 3) : sProp 𝕄 :=
  iprop(slotAny (nb o c) 0 (o.val + 1) ∗ slotAny (nb o c) 1 (o.val + 1) ∗ slotAny (nb o c) 2 (o.val + 1))
/-- The copy has left: its share of the source. -/
def sendPay (c : Dev nD) (ti o : Fin 3) : sProp 𝕄 := slotPts m ρ c c ti 0 (shareTok fullShare 3 o)
/-- The copy has arrived: the slot holds the block of the device `o + 1` places back. -/
def recvPay (c : Dev nD) (ti o : Fin 3) : sProp 𝕄 := slotPts m ρ c (nb (rv o) c) ti (o.val + 1) fullShare

instance barPay_storable (c : Dev nD) (o : Fin 3) : BI.Storable (upEmb : UEmb _ 𝕄) (barPay (F := F) c o) := by unfold barPay; infer_instance
instance sendPay_storable (c : Dev nD) (ti o : Fin 3) : BI.Storable (upEmb : UEmb _ 𝕄) (sendPay m ρ c ti o) := by unfold sendPay; infer_instance
instance recvPay_storable (c : Dev nD) (ti o : Fin 3) : BI.Storable (upEmb : UEmb _ 𝕄) (recvPay m ρ c ti o) := by unfold recvPay; infer_instance

/-- The buffer and the distance of the `n`-th of nine semaphores. -/
abbrev tiOf (n : ℕ) : Fin 3 := ⟨n / 3 % 3, Nat.mod_lt _ (by decide)⟩
abbrev oOf (n : ℕ) : Fin 3 := ⟨n % 3, Nat.mod_lt _ (by decide)⟩

def exRd : Rounds.Schedule (GSem nD τ sig) (Fin 3) 𝕄 where
  duties g r := if r = 0 ∧ g.1.2 = .tc then (match g.2 with | .reg _ => Finset.univ | .dma q => if 9 ≤ q.val then {0} else ∅) else ∅
  unitless _ := False
  amount g _ _ := match g.2 with | .reg _ => 1 | .dma q => Ncr (tiOf q.val)
  payload g _ d := match g.2 with
    | .reg _ => barPay g.1.1 d
    | .dma q => if q.val < 18 then sendPay m ρ g.1.1 (tiOf q.val) (oOf q.val) else recvPay m ρ g.1.1 (tiOf q.val) (oOf q.val)
  amount_pos g _ _ _ := by
    cases g.2 with
    | reg _ => exact Nat.one_pos
    | dma q => exact Ncr_pos _

instance exRd_payload_storable (g : GSem nD τ sig) (r : ℕ) (d : Fin 3) : BI.Storable (upEmb : UEmb _ 𝕄) ((exRd m ρ).payload g r d) := by
  show BI.Storable upEmb (match g.2 with
    | .reg _ => barPay g.1.1 d
    | .dma q => if q.val < 18 then sendPay m ρ g.1.1 (tiOf q.val) (oOf q.val) else recvPay m ρ g.1.1 (tiOf q.val) (oOf q.val))
  split
  · infer_instance
  · split <;> infer_instance

section Sched
variable (c : Dev nD) (ti o : Fin 3)

theorem tiOf_send : tiOf (sendS ti o).val = ti := by revert ti o; decide
theorem oOf_send : oOf (sendS ti o).val = o := by revert ti o; decide
theorem tiOf_recv : tiOf (recvS ti o).val = ti := by revert ti o; decide
theorem oOf_recv : oOf (recvS ti o).val = o := by revert ti o; decide

theorem duties_bar : (exRd m ρ).duties (barCell c) 0 = Finset.univ := by dsimp only [exRd]; exact if_pos ⟨rfl, rfl⟩
theorem duties_send : (exRd m ρ).duties (sendCell c ti o) 0 = {0} := by
  dsimp only [exRd]; rw [if_pos ⟨rfl, rfl⟩, if_pos (Nat.le_add_right _ _)]
theorem duties_recv : (exRd m ρ).duties (recvCell c ti o) 0 = {0} := by
  dsimp only [exRd]; rw [if_pos ⟨rfl, rfl⟩, if_pos (by omega)]
theorem duties_later (g : GSem nD τ sig) : ∀ r, 1 ≤ r → (exRd m ρ).duties g r = ∅ :=
  fun r hr => by dsimp only [exRd]; exact if_neg fun h => by omega

theorem amount_bar (d : Fin 3) : (exRd m ρ).amount (barCell c) 0 d = 1 := rfl
theorem amount_send (d : Fin 3) : (exRd m ρ).amount (sendCell c ti o) 0 d = Ncr ti := by
  show Ncr (tiOf (sendS ti o).val) = _; rw [tiOf_send]
theorem amount_recv (d : Fin 3) : (exRd m ρ).amount (recvCell c ti o) 0 d = Ncr ti := by
  show Ncr (tiOf (recvS ti o).val) = _; rw [tiOf_recv]

theorem expect_bar : (exRd m ρ).expect (barCell c) 0 = 3 := by
  unfold Schedule.expect Schedule.amountOf; rw [duties_bar]; simp only [amount_bar]; rfl
theorem expect_send : (exRd m ρ).expect (sendCell c ti o) 0 = Ncr ti := by
  unfold Schedule.expect Schedule.amountOf; rw [duties_send, Finset.sum_singleton, amount_send]
theorem expect_recv : (exRd m ρ).expect (recvCell c ti o) 0 = Ncr ti := by
  unfold Schedule.expect Schedule.amountOf; rw [duties_recv, Finset.sum_singleton, amount_recv]

theorem payload_bar (d : Fin 3) : (exRd m ρ).payload (barCell c) 0 d = barPay c d := rfl
theorem payload_send (d : Fin 3) : (exRd m ρ).payload (sendCell c ti o) 0 d = sendPay m ρ c ti o := by
  show (if (sendS ti o).val < 18 then sendPay m ρ c (tiOf (sendS ti o).val) (oOf (sendS ti o).val) else recvPay m ρ c (tiOf (sendS ti o).val) (oOf (sendS ti o).val)) = _
  rw [if_pos (by show 9 + (3 * ti.val + o.val) < 18; omega), tiOf_send, oOf_send]
theorem payload_recv (d : Fin 3) : (exRd m ρ).payload (recvCell c ti o) 0 d = recvPay m ρ c ti o := by
  show (if (recvS ti o).val < 18 then sendPay m ρ c (tiOf (recvS ti o).val) (oOf (recvS ti o).val) else recvPay m ρ c (tiOf (recvS ti o).val) (oOf (recvS ti o).val)) = _
  rw [if_neg (by show ¬ 18 + (3 * ti.val + o.val) < 18; omega), tiOf_recv, oOf_recv]

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((exRd m ρ).duties (barCell c) 0 \ ∅) (fun u => (exRd m ρ).payload (barCell c) 0 u) = iprop(barPay c 0 ∗ barPay c 1 ∗ barPay c 2) := by
  rw [Finset.sdiff_empty, duties_bar, bigSep_fin3]; rfl
theorem rest_send : bigSep ((exRd m ρ).duties (sendCell c ti o) 0 \ ∅) (fun u => (exRd m ρ).payload (sendCell c ti o) 0 u) = sendPay m ρ c ti o := by
  rw [Finset.sdiff_empty, duties_send, bigSep_singleton, payload_send]
theorem rest_recv : bigSep ((exRd m ρ).duties (recvCell c ti o) 0 \ ∅) (fun u => (exRd m ρ).payload (recvCell c ti o) 0 u) = recvPay m ρ c ti o := by
  rw [Finset.sdiff_empty, duties_recv, bigSep_singleton, payload_recv]

end Sched

/-! ## What each device owes, in the order in which it pays; the levels -/

/-- The tallies of a list of debts, the first on top. -/
def Ot : List (GSem nD τ sig × ℕ) → CellTallies nD τ sig Unit
  | [] => 0
  | a :: l => Ot l + tallyAt a.1 () a.2

def debtB (c : Dev nD) : List (GSem nD τ sig × ℕ) := [(barCell (nb 0 c), 1), (barCell (nb 1 c), 1), (barCell (nb 2 c), 1)]
def debtR (o : Fin 3) (c : Dev nD) : List (GSem nD τ sig × ℕ) :=
  [(recvCell (nb o c) 0 o, Ncr 0), (recvCell (nb o c) 1 o, Ncr 1), (recvCell (nb o c) 2 o, Ncr 2)]
def debtRs (c : Dev nD) : List (GSem nD τ sig × ℕ) := debtR 0 c ++ (debtR 1 c ++ debtR 2 c)
def debts (c : Dev nD) : List (GSem nD τ sig × ℕ) := debtB c ++ debtRs c

def O₀ (c : Dev nD) : CellTallies nD τ sig Unit := Ot (debts c)

theorem Ot_apply (l : List (GSem nD τ sig × ℕ)) (g : GSem nD τ sig) (u : Unit) : Ot l g u = (l.map fun a => if g = a.1 then a.2 else 0).sum := by
  induction l with
  | nil => rfl
  | cons a l ih =>
    show (Ot l + tallyAt a.1 () a.2) g u = _
    rw [Pi.add_apply, Finsupp.add_apply, tallyAt_apply, ih, List.map_cons, List.sum_cons, Nat.add_comm]
    congr 1
    by_cases h : g = a.1
    · rw [if_pos ⟨h, rfl⟩, if_pos h]
    · rw [if_neg (fun h' => h h'.1), if_neg h]

theorem Ot_pos {l : List (GSem nD τ sig × ℕ)} {g : GSem nD τ sig} {u : Unit} (h : 0 < Ot l g u) : ∃ a ∈ l, g = a.1 := by
  induction l with
  | nil => exact absurd h (Nat.lt_irrefl 0)
  | cons a l ih =>
    by_cases hg : g = a.1
    · exact ⟨a, List.mem_cons_self, hg⟩
    · have h' : 0 < (Ot l + tallyAt a.1 () a.2) g u := h
      rw [Pi.add_apply, Finsupp.add_apply, tallyAt_apply, if_neg (fun h' => hg h'.1), Nat.add_zero] at h'
      obtain ⟨b, hb, e⟩ := ih h'
      exact ⟨b, List.mem_cons_of_mem _ hb, e⟩

def L (g : GSem nD τ sig) : Finset Unit := if g.1.2 = .tc then {()} else ∅
/-- Staging and sends below the barrier, the barrier below the receives. -/
def lv (g : GSem nD τ sig) (_ : Unit) : ℕ := match g.2 with | .reg _ => 1 | .dma q => if q.val < 18 then 0 else 2
theorem L_of_ne (g : GSem nD τ sig) (h : g.1.2 ≠ .tc) : L g = ∅ := if_neg h
theorem L_tc (c : Dev nD) (sm : SemLoc sig) : L ((c : Thread nD τ), sm) = {()} := if_pos rfl

theorem debtB_cell {c : Dev nD} {a : GSem nD τ sig × ℕ} (h : a ∈ debtB c) : ∃ d, a.1 = barCell d := by
  simp only [debtB, List.mem_cons, List.not_mem_nil, or_false] at h
  rcases h with rfl | rfl | rfl <;> exact ⟨_, rfl⟩
theorem debtR_cell {o : Fin 3} {c : Dev nD} {a : GSem nD τ sig × ℕ} (h : a ∈ debtR o c) : ∃ d ti, a.1 = recvCell d ti o := by
  simp only [debtR, List.mem_cons, List.not_mem_nil, or_false] at h
  rcases h with rfl | rfl | rfl <;> exact ⟨_, _, rfl⟩
theorem debtRs_cell {c : Dev nD} {a : GSem nD τ sig × ℕ} (h : a ∈ debtRs c) : ∃ d ti o, a.1 = recvCell d ti o := by
  simp only [debtRs, List.mem_append] at h
  rcases h with h | h | h <;> (obtain ⟨d, ti, e⟩ := debtR_cell h; exact ⟨d, ti, _, e⟩)

theorem lv_recv (c : Dev nD) (ti o : Fin 3) (u : Unit) : lv (recvCell c ti o) u = 2 := by
  show (if 18 + (3 * ti.val + o.val) < 18 then 0 else 2) = 2; rw [if_neg (by omega)]

theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · have hc : ∀ {g : GSem nD τ sig} {u : Unit}, 0 < O₀ c g u → (∃ d, g = barCell d) ∨ ∃ d ti o, g = recvCell d ti o := by
      intro g u hg
      obtain ⟨a, ha, rfl⟩ := Ot_pos hg
      rcases List.mem_append.mp ha with ha | ha
      · exact .inl (debtB_cell ha)
      · exact .inr (debtRs_cell ha)
    refine MayOwe.of_cut (L := L) (lev := lv) 0 (fun p hp => by rw [Finset.mem_singleton.mp hp, L_tc]; exact Finset.mem_singleton_self _)
      (fun g u hg => by rcases hc hg with ⟨d, rfl⟩ | ⟨d, ti, o, rfl⟩ <;> exact Finset.mem_singleton_self _)
      (fun p hp => by rw [Finset.mem_singleton.mp hp]; show (if q.val < 18 then 0 else 2) ≤ 0; rw [if_pos hq])
      (fun g u hg => by
        rcases hc hg with ⟨d, rfl⟩ | ⟨d, ti, o, rfl⟩
        · show 0 < 1; decide
        · rw [lv_recv]; decide)
  · rw [MayWait_zero]; iintro -; iempintro

theorem mayWait_bar (c : Dev nD) : (levAts L lv : sProp 𝕄) ⊢ MayWait (c : Thread nD τ) (.reg barS) () (Ot (debtRs c)) := by
  have hc : ∀ {g : GSem nD τ sig} {u : Unit}, 0 < Ot (debtRs c) g u → ∃ d ti o, g = recvCell d ti o := by
    intro g u hg
    obtain ⟨a, ha, rfl⟩ := Ot_pos hg
    exact debtRs_cell ha
  exact MayOwe.of_cut (L := L) (lev := lv) 1 (fun p hp => by rw [Finset.mem_singleton.mp hp, L_tc]; exact Finset.mem_singleton_self _)
    (fun g u hg => by obtain ⟨d, ti, o, rfl⟩ := hc hg; exact Finset.mem_singleton_self _)
    (fun p hp => by rw [Finset.mem_singleton.mp hp]; exact Nat.le_refl 1)
    (fun g u hg => by obtain ⟨d, ti, o, rfl⟩ := hc hg; rw [lv_recv]; decide)

end Cert.KernelProof
end
-- ==== Proof.Steps.lean ====
/-
# The steps of the exchange

One statement per kind of operation of the kernel: a barrier signal, the barrier wait, a copy of
each of the three buffers, a wait for a copy that has arrived and one for a copy that has left,
and the stores of one head's rows and columns.
-/
module

public import proofs.«01_k».proof.Proof.Protocol

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No invariant is open to begin with. -/
abbrev 𝒱₀ : Variants := Variants.none

/-- The invariants of all the cells, and that every cell's first round is open. -/
def records (K : Dev nD × Fin 19 → ℕ) : sProp 𝕄 :=
  iprop((bigSep Finset.univ fun p : Dev nD × Fin 19 => cellInv ER (exRd m ρ) (K p) (kcell p))
    ∗ bigSep Finset.univ fun p : Dev nD × Fin 19 => reached ER (kcell p) 0)

variable (K : Dev nD × Fin 19 → ℕ)

instance records_persistent : BI.Persistent (records m ρ K) := by unfold records; infer_instance

theorem inv_mem (p : Dev nD × Fin 19) :
    (bigSep Finset.univ fun p : Dev nD × Fin 19 => (cellInv ER (exRd m ρ) (K p) (kcell p) : sProp 𝕄)) ⊢ cellInv ER (exRd m ρ) (K p) (kcell p) :=
  bigSep_elim (Finset.mem_univ p)
theorem reached_mem (p : Dev nD × Fin 19) :
    (bigSep Finset.univ fun p : Dev nD × Fin 19 => (reached ER (kcell p) 0 : sProp 𝕄)) ⊢ reached ER (kcell p) 0 :=
  bigSep_elim (Finset.mem_univ p)
theorem inv_at (p : Dev nD × Fin 19) : records m ρ K ⊢ cellInv ER (exRd m ρ) (K p) (kcell p) := by
  unfold records; iintro ⟨H, -⟩; iapply (inv_mem m ρ K p) $$ H
theorem reached_at (p : Dev nD × Fin 19) : records m ρ K ⊢ (reached ER (kcell p) 0 : sProp 𝕄) := by
  unfold records; iintro ⟨-, H⟩; iapply (reached_mem p) $$ H

/-- What a device owes, whatever it has waited for. -/
def owesE (c : Dev nD) (O : CellTallies nD τ sig Unit) : sProp 𝕄 := iprop(∃ W, owes (c : Thread nD τ) O W)

section Steps

variable {α : Type} {Q : α → sProp (MT nD τ sig Unit (Elt F) ℕ UU ℕ)}

theorem wp_sig (c n : Dev nD) (o : Fin 3) (hn : n = nb o c) (l : List (GSem nD τ sig × ℕ))
    {k : PUnit → Prog (TpuEff nD τ sig (Elt F) Λ₀ .tc) α} :
    iprop(records m ρ K ∗ owesE c (Ot ((barCell (nb o c), 1) :: l)) ∗ dutyTok ER (barCell (nb o c)) 0 (rv o)
        ∗ slotAny c 0 ((rv o).val + 1) ∗ slotAny c 1 ((rv o).val + 1) ∗ slotAny c 2 ((rv o).val + 1))
      ⊢ iprop((owesE c (Ot l) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, Proc.tc) barS (1#32 : BitVec 32).toInt) k) Q) := by
  subst hn
  unfold owesE
  iintro ⟨#HR, ⟨%W, HO⟩, Ht, H0, H1, H2⟩ Hk
  ihave #HI := (inv_at m ρ K (nb o c, 0)) $$ HR
  ihave #Hr := (reached_at m ρ K (nb o c, 0)) $$ HR
  iapply (Rounds.wp_signal 𝒱₀ ER (exRd m ρ) (c : Thread nD τ) none (dst := (nb o c : Thread nD τ)) (κ := K (nb o c, 0)) (d := rv o) (r := 0)
      (by rw [show (((nb o c : Dev nD) : Thread nD τ), SemLoc.reg barS) = barCell (nb o c) from rfl, duties_bar]; exact Finset.mem_univ _)
      ((amount_bar m ρ (nb o c) (rv o)).trans (by decide)) () (Ot l) rfl) $$ [HO Ht H0 H1 H2]
  · isplitr; · iexact HI
    isplitl [HO]; · iexact HO
    isplitl [Ht]; · iexact Ht
    isplitl [H0 H1 H2]
    · rw [show (((nb o c : Dev nD) : Thread nD τ), SemLoc.reg barS) = barCell (nb o c) from rfl, payload_bar]; unfold barPay; rw [nb_rv]
      isplitl [H0]; · iexact H0
      isplitl [H1] <;> iassumption
    · iexact Hr
  iintro HO
  iapply Hk; iexists W; iexact HO

theorem wp_barwait (c : Dev nD) {k : PUnit → Prog (TpuEff nD τ sig (Elt F) Λ₀ .tc) α} :
    iprop(records m ρ K ∗ owesE c (Ot (debtRs c)) ∗ cred (tallyAt (barCell c) () 3) ∗ levAts L lv ∗ atPos ER (barCell c) 0 ∅ 0)
      ⊢ iprop(((owesE c (Ot (debtRs c)) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toInt) k) Q) := by
  unfold owesE
  iintro ⟨#HR, ⟨%W, HO⟩, Hc, #Hlev, Hat⟩ Hk
  ihave #HI := (inv_at m ρ K (c, 0)) $$ HR
  iapply (Rounds.wp_wait_rest_token 𝒱₀ ER (exRd m ρ) (c : Thread nD τ) none (κ := K (c, 0))
      (wpE_semWait_eq 𝒱₀ (c : Thread nD τ) none Set.univ) (Set.mem_univ _) () (O := Ot (debtRs c)) (W := W) (R := 0) (m := 0) (T := ∅)
      (by rw [show ((c : Thread nD τ), SemLoc.reg barS) = barCell c from rfl, expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (exRd m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- A wait for a copy that has arrived. -/
theorem wp_rwait (c : Dev nD) (ti o : Fin 3) {q : DmaSem sig} (hq : q = recvS ti o) {sp sp' : Space} {s s' : Shape} {e e' : EltTy}
    {src : Memref sig .tc sp s e} {dst : Memref sig .tc sp' s' e'} {h1 : src.view.WordExact} {h2 : dst.view.WordExact}
    (hcr : dst.view.dmaCredit = Ncr ti) {k : PUnit → Prog (TpuEff nD τ sig (Elt F) Λ₀ .tc) α} :
    iprop(records m ρ K ∗ owesE c 0 ∗ cred (tallyAt (recvCell c ti o) () (Ncr ti)) ∗ atPos ER (recvCell c ti o) 0 ∅ 0)
      ⊢ iprop(((owesE c 0 ∗ semVal (recvCell c ti o) 0 ∗ recvPay m ρ c ti o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  unfold owesE
  iintro ⟨#HR, ⟨%W, HO⟩, Hc, Hat⟩ Hk
  ihave #HI := (inv_at m ρ K (c, ixR ti o)) $$ HR
  iapply (Rounds.wp_wait_rest_token 𝒱₀ ER (exRd m ρ) (c : Thread nD τ) none (κ := K (c, ixR ti o))
      (wpE_waitDma2_eq 𝒱₀ (c : Thread nD τ) none Set.univ) (Set.mem_univ _) () (O := 0) (W := W) (R := 0) (m := 0) (T := ∅)
      (by rw [show ((c : Thread nD τ), SemLoc.dma (recvS ti o)) = recvCell c ti o from rfl, expect_recv, hcr, Nat.zero_add])) $$ [Hc HO Hat]
  · isplitr; · rw [kcell_recv]; iexact HI
    isplitl [Hc]; · rw [hcr]; iexact Hc
    isplitl [HO]; · iexact HO
    isplitr; · rw [MayWait_zero]; iempintro
    iexact Hat
  iintro ⟨HO, Hat, -, Hpay⟩
  ihave Hp := (Entails.of_eq (rest_recv m ρ c ti o)) $$ Hpay
  imod (Rounds.cell_close ER (exRd m ρ) (Set.mem_univ (K (c, ixR ti o))) (fun h => h) (R := 0 + 1) (duties_later m ρ (recvCell c ti o))) $$ [Hat] with Hz
  · isplitr; · rw [kcell_recv]; iexact HI
    iexact Hat
  iapply Hk
  isplitl [HO]; · iexists _; iexact HO
  isplitl [Hz]; · iexact Hz
  iexact Hp

/-- A wait for a copy that has left. -/
theorem wp_swait (c : Dev nD) (ti o : Fin 3) {q : DmaSem sig} (hq : q = sendS ti o) {sp sp' : Space} {s s' : Shape} {e e' : EltTy}
    {src : Memref sig .tc sp s e} {dst : Memref sig .tc sp' s' e'} {h1 : src.view.WordExact} {h2 : dst.view.WordExact}
    (hcr : dst.view.dmaCredit = Ncr ti) {k : PUnit → Prog (TpuEff nD τ sig (Elt F) Λ₀ .tc) α} :
    iprop(records m ρ K ∗ owesE c 0 ∗ cred (tallyAt (sendCell c ti o) () (Ncr ti)) ∗ atPos ER (sendCell c ti o) 0 ∅ 0)
      ⊢ iprop(((owesE c 0 ∗ semVal (sendCell c ti o) 0 ∗ sendPay m ρ c ti o)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  unfold owesE
  iintro ⟨#HR, ⟨%W, HO⟩, Hc, Hat⟩ Hk
  ihave #HI := (inv_at m ρ K (c, ixS ti o)) $$ HR
  iapply (Rounds.wp_wait_rest_token 𝒱₀ ER (exRd m ρ) (c : Thread nD τ) none (κ := K (c, ixS ti o))
      (wpE_waitDma2_eq 𝒱₀ (c : Thread nD τ) none Set.univ) (Set.mem_univ _) () (O := 0) (W := W) (R := 0) (m := 0) (T := ∅)
      (by rw [show ((c : Thread nD τ), SemLoc.dma (sendS ti o)) = sendCell c ti o from rfl, expect_send, hcr, Nat.zero_add])) $$ [Hc HO Hat]
  · isplitr; · rw [kcell_send]; iexact HI
    isplitl [Hc]; · rw [hcr]; iexact Hc
    isplitl [HO]; · iexact HO
    isplitr; · rw [MayWait_zero]; iempintro
    iexact Hat
  iintro ⟨HO, Hat, -, Hpay⟩
  ihave Hp := (Entails.of_eq (rest_send m ρ c ti o)) $$ Hpay
  imod (Rounds.cell_close ER (exRd m ρ) (Set.mem_univ (K (c, ixS ti o))) (fun h => h) (R := 0 + 1) (duties_later m ρ (sendCell c ti o))) $$ [Hat] with Hz
  · isplitr; · rw [kcell_send]; iexact HI
    iexact Hat
  iapply Hk
  isplitl [HO]; · iexists _; iexact HO
  isplitl [Hz]; · iexact Hz
  iexact Hp

/-- A copy of slot 0 of a buffer into a slot of the device `o + 1` places on: from a share of the source and the whole
    destination, given how the two are read as slots and what the landing leaves. -/
theorem wp_copy (c : Dev nD) (ti o : Fin 3) {s : Shape} {e : EltTy} {src dst : Memref sig .tc .vmem s e} {hsc : dst.view.ref.isScScratch = false}
    {hsrc : src.view.WordExact} {hdst : dst.view.WordExact}
    {hsem : DmaTarget.Typed .vmem (.dma (recvS ti o)) (.remote (Dev.tc (nb o c) : Thread nD τ) dst (.dma (sendS ti o)) hsc)}
    {k : PUnit → Prog (TpuEff nD τ sig (Elt F) Λ₀ .tc) α} (O : CellTallies nD τ sig Unit) (W : Waits sig Unit)
    (fs : Buf (Elt F) (src.view.loc (c : Thread nD τ))) (fd : Buf (Elt F) (dst.view.loc (nb o c : Thread nD τ)))
    (hN : dst.view.amount (.dma (recvS ti o)) = Ncr ti)
    (hS : (src.view.loc (c : Thread nD τ) ↦[src.view.set]{shareTok fullShare 3 o} fs : sProp 𝕄) ⊢ sendPay m ρ c ti o)
    (hD : (dst.view.loc (nb o c : Thread nD τ) ↦[dst.view.set]{fullShare} dst.view.write (Elt F) fd (src.view.read (Elt F) fs) Finset.univ : sProp 𝕄)
      ⊢ recvPay m ρ (nb o c) ti o) :
    iprop(cellInv ER (exRd m ρ) (K (c, ixS ti o)) (sendCell c ti o) ∗ cellInv ER (exRd m ρ) (K (nb o c, ixR ti o)) (recvCell (nb o c) ti o)
        ∗ (src.view.loc (c : Thread nD τ) ↦[src.view.set]{shareTok fullShare 3 o} fs) ∗ (dst.view.loc (nb o c : Thread nD τ) ↦[dst.view.set]{fullShare} fd)
        ∗ owes (c : Thread nD τ) (O + tallyAt (recvCell (nb o c) ti o) () (Ncr ti)) W
        ∗ dutyTok ER (sendCell c ti o) 0 0 ∗ reached ER (sendCell c ti o) 0 ∗ dutyTok ER (recvCell (nb o c) ti o) 0 0 ∗ reached ER (recvCell (nb o c) ti o) 0)
      ⊢ iprop(((cred (tallyAt (sendCell c ti o) () (Ncr ti)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (nb o c) : Thread nD τ) dst (.dma (sendS ti o)) hsc) (.dma (recvS ti o)) hsrc hdst hsem) k) Q) :=
  Rounds.wp_send_pointsTo 𝒱₀ ER (exRd m ρ) (c : Thread nD τ) none (κ₁ := K (c, ixS ti o)) (κ₂ := K (nb o c, ixR ti o))
    (r₁ := 0) (r₂ := 0) (d₁ := 0) (d₂ := 0) (fd := fd)
    (by rw [duties_send]; exact Finset.mem_singleton_self _) (by rw [duties_recv]; exact Finset.mem_singleton_self _)
    () () (Ncr ti) hN (amount_send m ρ c ti o 0) (amount_recv m ρ (nb o c) ti o 0) O rfl (W := W)
    (by rw [payload_send]; exact hS) (by rw [payload_recv]; exact hD)

/-- The same with the slots named, the invariants and the opened rounds taken from the records. -/
theorem wp_send (c n : Dev nD) (ti o : Fin 3) (hn : n = nb o c) {qS qR : DmaSem sig} (hqS : qS = sendS ti o) (hqR : qR = recvS ti o)
    (l : List (GSem nD τ sig × ℕ)) {s : Shape} {e : EltTy} {src dst : Memref sig .tc .vmem s e} {hsc : dst.view.ref.isScScratch = false}
    {hsrc : src.view.WordExact} {hdst : dst.view.WordExact}
    {hsem : DmaTarget.Typed .vmem (.dma qR) (.remote (Dev.tc n : Thread nD τ) dst (.dma qS) hsc)}
    {k : PUnit → Prog (TpuEff nD τ sig (Elt F) Λ₀ .tc) α}
    (fs : Buf (Elt F) (src.view.loc (c : Thread nD τ))) (hN : dst.view.amount (.dma qR) = Ncr ti)
    (hS : slotPts m ρ c c ti 0 (shareTok fullShare 3 o) = (src.view.loc (c : Thread nD τ) ↦[src.view.set]{shareTok fullShare 3 o} fs : sProp 𝕄))
    (hD : (slotAny (nb o c) ti (o.val + 1) : sProp 𝕄)
      ⊢ iprop(∃ fd : Buf (Elt F) (dst.view.loc (nb o c : Thread nD τ)), dst.view.loc (nb o c : Thread nD τ) ↦[dst.view.set]{fullShare} fd))
    (hD' : ∀ fd : Buf (Elt F) (dst.view.loc (nb o c : Thread nD τ)),
      (dst.view.loc (nb o c : Thread nD τ) ↦[dst.view.set]{fullShare} dst.view.write (Elt F) fd (src.view.read (Elt F) fs) Finset.univ : sProp 𝕄)
        ⊢ slotPts m ρ (nb o c) c ti (o.val + 1) fullShare) :
    iprop(records m ρ K ∗ owesE c (Ot ((recvCell (nb o c) ti o, Ncr ti) :: l)) ∗ slotPts m ρ c c ti 0 (shareTok fullShare 3 o)
        ∗ slotAny (nb o c) ti (o.val + 1) ∗ dutyTok ER (sendCell c ti o) 0 0 ∗ dutyTok ER (recvCell (nb o c) ti o) 0 0)
      ⊢ iprop(((cred (tallyAt (sendCell c ti o) () (Ncr ti)) ∗ owesE c (Ot l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qS) hsc) (.dma qR) hsrc hdst hsem) k) Q) := by
  subst hn hqS hqR
  unfold owesE
  iintro ⟨#HR, ⟨%W, HO⟩, Hs, Hd, HtS, HtR⟩ Hk
  ihave #HIs := (inv_at m ρ K (c, ixS ti o)) $$ HR
  ihave #HIr := (inv_at m ρ K (nb o c, ixR ti o)) $$ HR
  ihave #Hrs := (reached_at m ρ K (c, ixS ti o)) $$ HR
  ihave #Hrr := (reached_at m ρ K (nb o c, ixR ti o)) $$ HR
  ihave Hd := hD $$ Hd
  ihave Hs := (Entails.of_eq hS) $$ Hs
  icases Hd with ⟨%fd, Hd⟩
  iapply (wp_copy m ρ K c ti o (Ot l) W fs fd hN (by unfold sendPay; rw [hS]) (by unfold recvPay; rw [nb_rv]; exact hD' fd)) $$ [Hs Hd HO HtS HtR]
  · isplitr; · rw [kcell_send]; iexact HIs
    isplitr; · rw [kcell_recv]; iexact HIr
    isplitl [Hs]; · iexact Hs
    isplitl [Hd]; · iexact Hd
    isplitl [HO]; · iexact HO
    isplitl [HtS]; · iexact HtS
    isplitr; · rw [kcell_send]; iexact Hrs
    isplitl [HtR]; · iexact HtR
    rw [kcell_recv]; iexact Hrr
  iintro ⟨Hc, HO⟩
  iapply Hk
  isplitl [Hc]; · iexact Hc
  iexists W; iexact HO

/-- How the slots of buffer 0 read as the views the copies name. -/
theorem src0_eq (c : Dev nD) (q : PosShare TreeShare) (h') : slotPts m ρ c c 0 0 q
    = ((sl0 0 h').view.loc (c : Thread nD τ) ↦[(sl0 0 h').view.set]{q} (bc (X0 m ρ c) : Buf (Elt F) ((sl0 0 h').view.loc (c : Thread nD τ))) : sProp 𝕄) := by
  rw [sl0_set]; rfl
theorem dst0_any (c : Dev nD) (s : ℕ) (h) : (slotAny c 0 s : sProp 𝕄)
    ⊢ iprop(∃ fd : Buf (Elt F) ((sl0 s h).view.loc (c : Thread nD τ)), (sl0 s h).view.loc (c : Thread nD τ) ↦[(sl0 s h).view.set]{fullShare} fd) := by
  rw [sl0_set]; exact BI.Entails.refl _
theorem dst0_landed (c c' : Dev nD) (s : ℕ) (h h') (fd : Buf (Elt F) ((sl0 s h).view.loc (c : Thread nD τ))) :
    ((sl0 s h).view.loc (c : Thread nD τ) ↦[(sl0 s h).view.set]{fullShare}
        (sl0 s h).view.write (Elt F) fd ((sl0 0 h').view.read (Elt F) (bc (X0 m ρ c'))) Finset.univ : sProp 𝕄)
      ⊢ slotPts m ρ c c' 0 s fullShare := by
  refine (Entails.of_eq (pointsTo_congr (copy0 s h h' (X0 m ρ c') fd))).trans ?_
  rw [sl0_set]; exact BI.Entails.refl _

/-- How the slots of buffer 1 read as the views the copies name. -/
theorem src1_eq (c : Dev nD) (q : PosShare TreeShare) (h') : slotPts m ρ c c 1 0 q
    = ((sl1 0 h').view.loc (c : Thread nD τ) ↦[(sl1 0 h').view.set]{q} (bc (X1 m ρ c) : Buf (Elt F) ((sl1 0 h').view.loc (c : Thread nD τ))) : sProp 𝕄) := by
  rw [sl1_set]; rfl
theorem dst1_any (c : Dev nD) (s : ℕ) (h) : (slotAny c 1 s : sProp 𝕄)
    ⊢ iprop(∃ fd : Buf (Elt F) ((sl1 s h).view.loc (c : Thread nD τ)), (sl1 s h).view.loc (c : Thread nD τ) ↦[(sl1 s h).view.set]{fullShare} fd) := by
  rw [sl1_set]; exact BI.Entails.refl _
theorem dst1_landed (c c' : Dev nD) (s : ℕ) (h h') (fd : Buf (Elt F) ((sl1 s h).view.loc (c : Thread nD τ))) :
    ((sl1 s h).view.loc (c : Thread nD τ) ↦[(sl1 s h).view.set]{fullShare}
        (sl1 s h).view.write (Elt F) fd ((sl1 0 h').view.read (Elt F) (bc (X1 m ρ c'))) Finset.univ : sProp 𝕄)
      ⊢ slotPts m ρ c c' 1 s fullShare := by
  refine (Entails.of_eq (pointsTo_congr (copy1 s h h' (X1 m ρ c') fd))).trans ?_
  rw [sl1_set]; exact BI.Entails.refl _

/-- How the slots of buffer 2 read as the views the copies name. -/
theorem src2_eq (c : Dev nD) (q : PosShare TreeShare) (h') : slotPts m ρ c c 2 0 q
    = ((sl2 0 h').view.loc (c : Thread nD τ) ↦[(sl2 0 h').view.set]{q} (bc (X2 m ρ c) : Buf (Elt F) ((sl2 0 h').view.loc (c : Thread nD τ))) : sProp 𝕄) := by
  rw [sl2_set]; rfl
theorem dst2_any (c : Dev nD) (s : ℕ) (h) : (slotAny c 2 s : sProp 𝕄)
    ⊢ iprop(∃ fd : Buf (Elt F) ((sl2 s h).view.loc (c : Thread nD τ)), (sl2 s h).view.loc (c : Thread nD τ) ↦[(sl2 s h).view.set]{fullShare} fd) := by
  rw [sl2_set]; exact BI.Entails.refl _
theorem dst2_landed (c c' : Dev nD) (s : ℕ) (h h') (fd : Buf (Elt F) ((sl2 s h).view.loc (c : Thread nD τ))) :
    ((sl2 s h).view.loc (c : Thread nD τ) ↦[(sl2 s h).view.set]{fullShare}
        (sl2 s h).view.write (Elt F) fd ((sl2 0 h').view.read (Elt F) (bc (X2 m ρ c'))) Finset.univ : sProp 𝕄)
      ⊢ slotPts m ρ c c' 2 s fullShare := by
  refine (Entails.of_eq (pointsTo_congr (copy2 s h h' (X2 m ρ c') fd))).trans ?_
  rw [sl2_set]; exact BI.Entails.refl _

end Steps

end Cert.KernelProof

end
-- ==== Proof.Access.lean ====
/-
# The loads and the stores

One statement for each kind of access of the kernel: a whole staged input, a slot of one of the three
buffers, and one head's rows and columns of the buffer the heads are gathered in.
-/
module

public import proofs.«01_k».proof.Proof.Steps

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem hz2 : (![0, 0] : Fin 2 → ℕ) = fun _ => 0 := funext fun a => by fin_cases a <;> rfl
theorem hz3 : (![0, 0, 0] : Fin 3 → ℕ) = fun _ => 0 := funext fun a => by fin_cases a <;> rfl

section Access

variable {α : Type} {Q : α → sProp (MT nD τ sig Unit (Elt F) ℕ UU ℕ)}

/-- A load of contents that the load reads as `X`. -/
theorem wp_ldx (c : Dev nD) {cs : CoreSpace} {s : Shape} {e : EltTy} {M : Memref sig .tc cs s e} {r : LoadRect s} {hl : M.view.LoadsAt r}
    {k : (r.shape.Idx → Elt F e) → Prog (TpuEff nD τ sig (Elt F) Λ₀ .tc) α} {S : Finset (Idx (M.view.loc (c : Thread nD τ)))} {q : PosShare TreeShare}
    {f : Buf (Elt F) (M.view.loc (c : Thread nD τ))} {X : r.shape.Idx → Elt F e} (hS : M.view.setOn r.set ⊆ S) (hX : M.view.readAt (Elt F) r f = X) :
    (M.view.loc (c : Thread nD τ) ↦[S]{q} f : sProp 𝕄)
      ⊢ iprop(((M.view.loc (c : Thread nD τ) ↦[S]{q} f) -∗ wp frame (wpE (defs₀ (F := F)) 𝒱₀ (c : Thread nD τ) none) Set.univ (k X) Q)
          -∗ wp frame (wpE (defs₀ (F := F)) 𝒱₀ (c : Thread nD τ) none) Set.univ (.op (.load M r hl) k) Q) := by
  subst hX; exact wp_load 𝒱₀ (c : Thread nD τ) none Set.univ hS

/-- A store that leaves the contents `g`. -/
theorem wp_stx (c : Dev nD) {cs : CoreSpace} {s : Shape} {e : EltTy} {M : Memref sig .tc cs s e} {r : Rect s} {w : r.shape.Idx → Elt F e} {Mk : Finset r.shape.Idx}
    {hx : (M.access r).Stores Mk} {hm : Mk = Finset.univ ∨ ∀ a, r.stride a = 1}
    {k : PUnit → Prog (TpuEff nD τ sig (Elt F) Λ₀ .tc) α} {S : Finset (Idx ((M.access r).loc (c : Thread nD τ)))}
    {f g : Buf (Elt F) ((M.access r).loc (c : Thread nD τ))} (hS : (M.access r).setOn Mk ⊆ S) (hg : ∀ i ∈ S, (M.access r).write (Elt F) f w Mk i = g i) :
    ((M.access r).loc (c : Thread nD τ) ↦[S]{fullShare} f : sProp 𝕄)
      ⊢ iprop((((M.access r).loc (c : Thread nD τ) ↦[S]{fullShare} g) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Mk hx hm) k) Q) := by
  rw [← pointsTo_congr hg]; exact wp_store 𝒱₀ (c : Thread nD τ) none Set.univ hS

/-- A load of a slot of buffer 0, when it holds a device's block and when it may hold anything, and the store of a block there. -/
theorem wp_ld0 (c c' : Dev nD) (s : ℕ) (h) (q : PosShare TreeShare) {hl} {k : Vec F S1x512x64 .bf16 → Prog (TpuEff nD τ sig (Elt F) Λ₀ .tc) α} :
    slotPts m ρ c c' 0 s q
      ⊢ iprop((slotPts m ρ c c' 0 s q -∗ wp frame (wpE (defs₀ (F := F)) 𝒱₀ (c : Thread nD τ) none) Set.univ (k (X0 m ρ c')) Q)
          -∗ wp frame (wpE (defs₀ (F := F)) 𝒱₀ (c : Thread nD τ) none) Set.univ (.op (.load (Memref.whole cc0_scratch0) (Rect.unit (s := S4x512x64) ![s, 0, 0] S1x512x64.size h).toLoadRect hl) k) Q) :=
  wp_ldx c (M := (Memref.whole cc0_scratch0)) (r := (Rect.unit (s := S4x512x64) ![s, 0, 0] S1x512x64.size h).toLoadRect) (S := slotSet 512 64 s) (by rw [← acc0_set s h]; exact (View.set_slice _ _).ge) (load0 s h (X0 m ρ c'))
theorem wp_la0 (c : Dev nD) (s : ℕ) (h) {hl} {k : Vec F S1x512x64 .bf16 → Prog (TpuEff nD τ sig (Elt F) Λ₀ .tc) α} :
    (slotAny c 0 s : sProp 𝕄)
      ⊢ iprop((∀ v, slotAny c 0 s -∗ wp frame (wpE (defs₀ (F := F)) 𝒱₀ (c : Thread nD τ) none) Set.univ (k v) Q)
          -∗ wp frame (wpE (defs₀ (F := F)) 𝒱₀ (c : Thread nD τ) none) Set.univ (.op (.load (Memref.whole cc0_scratch0) (Rect.unit (s := S4x512x64) ![s, 0, 0] S1x512x64.size h).toLoadRect hl) k) Q) := by
  unfold slotAny; iintro ⟨%f, Hf⟩ Hk
  iapply (wp_ldx c (M := (Memref.whole cc0_scratch0)) (r := (Rect.unit (s := S4x512x64) ![s, 0, 0] S1x512x64.size h).toLoadRect) (S := slotSet 512 64 s) (by rw [← acc0_set s h]; exact (View.set_slice _ _).ge) rfl) $$ Hf
  iintro Hf
  iapply Hk
  iexists f; iexact Hf
theorem wp_st0 (c : Dev nD) (s : ℕ) (h) {w : Vec F S1x512x64 .bf16} (hw : w = X0 m ρ c) {hx hm}
    {k : PUnit → Prog (TpuEff nD τ sig (Elt F) Λ₀ .tc) α} :
    (slotAny c 0 s : sProp 𝕄)
      ⊢ iprop((slotPts m ρ c c 0 s fullShare -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch0) (Rect.unit (s := S4x512x64) ![s, 0, 0] S1x512x64.size h) w Finset.univ hx hm) k) Q) := by
  subst hw
  unfold slotAny; iintro ⟨%f, Hf⟩
  iapply (wp_stx c (M := (Memref.whole cc0_scratch0)) (r := (Rect.unit (s := S4x512x64) ![s, 0, 0] S1x512x64.size h)) (S := slotSet 512 64 s) (g := (bc (X0 m ρ c) : Buf (Elt F) ((c : Thread nD τ).loc cc0_scratch0)))
    (by rw [View.setOn_univ, acc0_set]) (store0 s h (X0 m ρ c) f)) $$ Hf

/-- A load of a slot of buffer 1, when it holds a device's block and when it may hold anything, and the store of a block there. -/
theorem wp_ld1 (c c' : Dev nD) (s : ℕ) (h) (q : PosShare TreeShare) {hl} {k : Vec F S1x64x1024 .fp8e4m3 → Prog (TpuEff nD τ sig (Elt F) Λ₀ .tc) α} :
    slotPts m ρ c c' 1 s q
      ⊢ iprop((slotPts m ρ c c' 1 s q -∗ wp frame (wpE (defs₀ (F := F)) 𝒱₀ (c : Thread nD τ) none) Set.univ (k (X1 m ρ c')) Q)
          -∗ wp frame (wpE (defs₀ (F := F)) 𝒱₀ (c : Thread nD τ) none) Set.univ (.op (.load (Memref.whole cc0_scratch1) (Rect.unit (s := S4x64x1024) ![s, 0, 0] S1x64x1024.size h).toLoadRect hl) k) Q) :=
  wp_ldx c (M := (Memref.whole cc0_scratch1)) (r := (Rect.unit (s := S4x64x1024) ![s, 0, 0] S1x64x1024.size h).toLoadRect) (S := slotSet 64 1024 s) (by rw [← acc1_set s h]; exact (View.set_slice _ _).ge) (load1 s h (X1 m ρ c'))
theorem wp_la1 (c : Dev nD) (s : ℕ) (h) {hl} {k : Vec F S1x64x1024 .fp8e4m3 → Prog (TpuEff nD τ sig (Elt F) Λ₀ .tc) α} :
    (slotAny c 1 s : sProp 𝕄)
      ⊢ iprop((∀ v, slotAny c 1 s -∗ wp frame (wpE (defs₀ (F := F)) 𝒱₀ (c : Thread nD τ) none) Set.univ (k v) Q)
          -∗ wp frame (wpE (defs₀ (F := F)) 𝒱₀ (c : Thread nD τ) none) Set.univ (.op (.load (Memref.whole cc0_scratch1) (Rect.unit (s := S4x64x1024) ![s, 0, 0] S1x64x1024.size h).toLoadRect hl) k) Q) := by
  unfold slotAny; iintro ⟨%f, Hf⟩ Hk
  iapply (wp_ldx c (M := (Memref.whole cc0_scratch1)) (r := (Rect.unit (s := S4x64x1024) ![s, 0, 0] S1x64x1024.size h).toLoadRect) (S := slotSet 64 1024 s) (by rw [← acc1_set s h]; exact (View.set_slice _ _).ge) rfl) $$ Hf
  iintro Hf
  iapply Hk
  iexists f; iexact Hf
theorem wp_st1 (c : Dev nD) (s : ℕ) (h) {w : Vec F S1x64x1024 .fp8e4m3} (hw : w = X1 m ρ c) {hx hm}
    {k : PUnit → Prog (TpuEff nD τ sig (Elt F) Λ₀ .tc) α} :
    (slotAny c 1 s : sProp 𝕄)
      ⊢ iprop((slotPts m ρ c c 1 s fullShare -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch1) (Rect.unit (s := S4x64x1024) ![s, 0, 0] S1x64x1024.size h) w Finset.univ hx hm) k) Q) := by
  subst hw
  unfold slotAny; iintro ⟨%f, Hf⟩
  iapply (wp_stx c (M := (Memref.whole cc0_scratch1)) (r := (Rect.unit (s := S4x64x1024) ![s, 0, 0] S1x64x1024.size h)) (S := slotSet 64 1024 s) (g := (bc (X1 m ρ c) : Buf (Elt F) ((c : Thread nD τ).loc cc0_scratch1)))
    (by rw [View.setOn_univ, acc1_set]) (store1 s h (X1 m ρ c) f)) $$ Hf

/-- A load of a slot of buffer 2, when it holds a device's block and when it may hold anything, and the store of a block there. -/
theorem wp_ld2 (c c' : Dev nD) (s : ℕ) (h) (q : PosShare TreeShare) {hl} {k : Vec F S1x64x1024 .bf16 → Prog (TpuEff nD τ sig (Elt F) Λ₀ .tc) α} :
    slotPts m ρ c c' 2 s q
      ⊢ iprop((slotPts m ρ c c' 2 s q -∗ wp frame (wpE (defs₀ (F := F)) 𝒱₀ (c : Thread nD τ) none) Set.univ (k (X2 m ρ c')) Q)
          -∗ wp frame (wpE (defs₀ (F := F)) 𝒱₀ (c : Thread nD τ) none) Set.univ (.op (.load (Memref.whole cc0_scratch2) (Rect.unit (s := S4x64x1024) ![s, 0, 0] S1x64x1024.size h).toLoadRect hl) k) Q) :=
  wp_ldx c (M := (Memref.whole cc0_scratch2)) (r := (Rect.unit (s := S4x64x1024) ![s, 0, 0] S1x64x1024.size h).toLoadRect) (S := slotSet 64 1024 s) (by rw [← acc2_set s h]; exact (View.set_slice _ _).ge) (load2 s h (X2 m ρ c'))
theorem wp_la2 (c : Dev nD) (s : ℕ) (h) {hl} {k : Vec F S1x64x1024 .bf16 → Prog (TpuEff nD τ sig (Elt F) Λ₀ .tc) α} :
    (slotAny c 2 s : sProp 𝕄)
      ⊢ iprop((∀ v, slotAny c 2 s -∗ wp frame (wpE (defs₀ (F := F)) 𝒱₀ (c : Thread nD τ) none) Set.univ (k v) Q)
          -∗ wp frame (wpE (defs₀ (F := F)) 𝒱₀ (c : Thread nD τ) none) Set.univ (.op (.load (Memref.whole cc0_scratch2) (Rect.unit (s := S4x64x1024) ![s, 0, 0] S1x64x1024.size h).toLoadRect hl) k) Q) := by
  unfold slotAny; iintro ⟨%f, Hf⟩ Hk
  iapply (wp_ldx c (M := (Memref.whole cc0_scratch2)) (r := (Rect.unit (s := S4x64x1024) ![s, 0, 0] S1x64x1024.size h).toLoadRect) (S := slotSet 64 1024 s) (by rw [← acc2_set s h]; exact (View.set_slice _ _).ge) rfl) $$ Hf
  iintro Hf
  iapply Hk
  iexists f; iexact Hf
theorem wp_st2 (c : Dev nD) (s : ℕ) (h) {w : Vec F S1x64x1024 .bf16} (hw : w = X2 m ρ c) {hx hm}
    {k : PUnit → Prog (TpuEff nD τ sig (Elt F) Λ₀ .tc) α} :
    (slotAny c 2 s : sProp 𝕄)
      ⊢ iprop((slotPts m ρ c c 2 s fullShare -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch2) (Rect.unit (s := S4x64x1024) ![s, 0, 0] S1x64x1024.size h) w Finset.univ hx hm) k) Q) := by
  subst hw
  unfold slotAny; iintro ⟨%f, Hf⟩
  iapply (wp_stx c (M := (Memref.whole cc0_scratch2)) (r := (Rect.unit (s := S4x64x1024) ![s, 0, 0] S1x64x1024.size h)) (S := slotSet 64 1024 s) (g := (bc (X2 m ρ c) : Buf (Elt F) ((c : Thread nD τ).loc cc0_scratch2)))
    (by rw [View.setOn_univ, acc2_set]) (store2 s h (X2 m ρ c) f)) $$ Hf

/-! ## The buffer of the heads -/

/-- Which of the 32 blocks of 256 rows and 64 columns a position lies in. -/
def blk (i : S512x1024.Idx) : ℕ := 16 * ((i (0 : Fin 2)).val / 256) + (i (1 : Fin 2)).val / 64

/-- The first `n` blocks hold what `T` says. -/
def obuf (c : Dev nD) (T : Vec F S512x1024 .f32) (n : ℕ) : sProp 𝕄 :=
  iprop(∃ f : Buf (Elt F) ((c : Thread nD τ).loc cc0_scratch3), ⌜∀ i : S512x1024.Idx, blk i < n → (f : Vec F S512x1024 .f32) i = T i⌝
    ∗ ((c : Thread nD τ).loc cc0_scratch3 ↦{fullShare} f))

theorem obuf_start (c : Dev nD) (T : Vec F S512x1024 .f32) (f : Buf (Elt F) ((c : Thread nD τ).loc cc0_scratch3)) :
    ((c : Thread nD τ).loc cc0_scratch3 ↦{fullShare} f : sProp 𝕄) ⊢ obuf c T 0 := by
  iintro H; unfold obuf; iexists f; isplitr
  · ipureintro; intro i hi; exact absurd hi (Nat.not_lt_zero _)
  · iexact H

/-- A load of the buffer, whatever it reads. -/
theorem wp_lo (c : Dev nD) (T : Vec F S512x1024 .f32) (n : ℕ) {r : LoadRect S512x1024} {hl} {k : Vec F r.shape .f32 → Prog (TpuEff nD τ sig (Elt F) Λ₀ .tc) α} :
    (obuf c T n : sProp 𝕄) ⊢ iprop((∀ v, obuf c T n -∗ wp frame (wpE (defs₀ (F := F)) 𝒱₀ (c : Thread nD τ) none) Set.univ (k v) Q) -∗ wp frame (wpE (defs₀ (F := F)) 𝒱₀ (c : Thread nD τ) none) Set.univ (.op (.load (Memref.whole cc0_scratch3) r hl) k) Q) := by
  unfold obuf
  iintro ⟨%f, %hf, Hf⟩ Hk
  iapply (wp_load (defs := defs₀ (F := F)) (Q := Q) 𝒱₀ (c : Thread nD τ) none Set.univ (m := Memref.whole cc0_scratch3) (r := r) (hl := hl) (k := k) (q := fullShare)
    (f := f) (S := Finset.univ) (Finset.subset_univ _)) $$ Hf
  iintro Hf
  iapply Hk
  iexists f; isplitr; · (ipureintro; exact hf)
  iexact Hf

/-- Storing block `n` of `T` adds it to those the buffer holds. -/
theorem wp_so (c : Dev nD) (T : Vec F S512x1024 .f32) (n a b : ℕ) (ha : a = 256 * (n / 16)) (hb : b = 64 * (n % 16)) (h)
    {w : Vec F S256x64 .f32} (hw : ∀ x : S256x64.Idx, w x = T ((Rect.unit (s := S512x1024) ![a, b] S256x64.size h).emb x)) {hx hm}
    {k : PUnit → Prog (TpuEff nD τ sig (Elt F) Λ₀ .tc) α} :
    (obuf c T n : sProp 𝕄) ⊢ iprop((obuf c T (n + 1) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_scratch3) (Rect.unit (s := S512x1024) ![a, b] S256x64.size h) w Finset.univ hx hm) k) Q) := by
  unfold obuf
  iintro ⟨%f, %hf, Hf⟩ Hk
  iapply (wp_store (defs := defs₀ (F := F)) (Q := Q) 𝒱₀ (c : Thread nD τ) none Set.univ (m := Memref.whole cc0_scratch3)
    (r := Rect.unit (s := S512x1024) ![a, b] S256x64.size h) (w := w) (Mk := Finset.univ) (hx := hx) (hm := hm)
    (k := k) (f := f) (S := Finset.univ) (Finset.subset_univ _)) $$ Hf
  iintro Hf
  iapply Hk
  iexists _; isplitr; swap; · iexact Hf
  ipureintro
  intro i hi
  by_cases hin : ∃ x : S256x64.Idx, ((Memref.whole cc0_scratch3).access (Rect.unit (s := S512x1024) ![a, b] S256x64.size h)).emb x = i
  · obtain ⟨x, rfl⟩ := hin
    refine (View.write_emb_of_mem _ _ (Finset.mem_univ x)).trans ?_
    exact (hw x)
  · refine (View.write_of_not_mem _ _ _ ?_).trans (hf i ?_)
    · rw [View.setOn_univ]
      rintro hmem
      obtain ⟨x, -, hx⟩ := Finset.mem_map.mp hmem
      exact hin ⟨x, hx⟩
    · by_contra hlt
      have hn : blk i = n := by omega
      have h0 : (i (0 : Fin 2)).val < 512 := (i (0 : Fin 2)).isLt
      have h1 : (i (1 : Fin 2)).val < 1024 := (i (1 : Fin 2)).isLt
      unfold blk at hn
      have k0 : (i (0 : Fin 2)).val - a < 256 ∧ a + 1 * ((i (0 : Fin 2)).val - a) = (i (0 : Fin 2)).val := by omega
      have k1 : (i (1 : Fin 2)).val - b < 64 ∧ b + 1 * ((i (1 : Fin 2)).val - b) = (i (1 : Fin 2)).val := by omega
      refine hin ⟨Fin.cons ⟨(i (0 : Fin 2)).val - a, k0.1⟩ (Fin.cons ⟨(i (1 : Fin 2)).val - b, k1.1⟩ finZeroElim), ?_⟩
      funext ax
      refine Fin.ext ?_
      revert ax
      refine Fin.forall_fin_two.2 ⟨k0.2, k1.2⟩

/-- The full buffer, read whole. -/
theorem wp_lT (c : Dev nD) (T : Vec F S512x1024 .f32) (h) {hl} {k : Vec F S512x1024 .f32 → Prog (TpuEff nD τ sig (Elt F) Λ₀ .tc) α} :
    (obuf c T 32 : sProp 𝕄) ⊢ iprop((obuf c T 32 -∗ wp frame (wpE (defs₀ (F := F)) 𝒱₀ (c : Thread nD τ) none) Set.univ (k T) Q) -∗ wp frame (wpE (defs₀ (F := F)) 𝒱₀ (c : Thread nD τ) none) Set.univ (.op (.load (Memref.whole cc0_scratch3) (Rect.unit (s := S512x1024) ![0, 0] S512x1024.size h).toLoadRect hl) k) Q) := by
  unfold obuf
  iintro ⟨%f, %hf, Hf⟩ Hk
  have hfT : f = T := funext fun i => hf i (by
    unfold blk
    have h0 : (i (0 : Fin 2)).val < 512 := (i (0 : Fin 2)).isLt
    have h1 : (i (1 : Fin 2)).val < 1024 := (i (1 : Fin 2)).isLt
    omega)
  subst hfT
  iapply (wp_ldx c (M := Memref.whole cc0_scratch3) (r := (Rect.unit (s := S512x1024) ![0, 0] S512x1024.size h).toLoadRect) (S := Finset.univ)
    (Finset.subset_univ _) (Memref.readAt_unit_zero (Elt F) cc0_scratch3 hz2 h f)) $$ Hf
  iintro Hf
  iapply Hk
  iexists f; isplitr; · (ipureintro; exact hf)
  iexact Hf

end Access

end Cert.KernelProof
-- ==== Proof.Heads.lean ====
/-
# The heads

What the kernel stores for each of the 32 pairs of a batch and a head is one function of the pair.
-/
module

public import proofs.«01_k».proof.Proof.Access

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem slices_head : ∀ n : Fin 32, S512x1024.Slices ![256 * (n.val / 16), 64 * (n.val % 16)] S256x64 := by decide
theorem slices_rope : ∀ n : Fin 32, S512x512.Slices ![256 * (n.val / 16), 32 * (n.val % 16)] S256x32 := by decide
theorem slices_row : ∀ n : Fin 32, S512x32.Slices ![256 * (n.val / 16), 0] S256x32 := by decide

section Heads

/-! From the unscaled queries and their rotary part, the rotary keys, the keys and the values of a device. -/

variable (q : FVec F S512x1024 .f32) (qr : FVec F S512x512 .f32) (kr : FVec F S512x32 .f32) (kk vv : FVec F S512x1024 .f32)

/-- The weights of a head: exponentials of its scores. -/
def headE (n : Fin 32) : FVec F S256x256 .f32 :=
  exp (addf
    (matmul dot_S256x64_S256x64_S256x256_1_1_0_0_n_n none
      (extractStridedSlice S256x64 ![256 * (n.val / 16), 64 * (n.val % 16)] (k0_pay18 q) (slices_head n))
      (extractStridedSlice S256x64 ![256 * (n.val / 16), 64 * (n.val % 16)] kk (slices_head n)) (constant S256x256 .f32 0x00000000#32))
    (matmul dot_S256x32_S256x32_S256x256_1_1_0_0_n_n none
      (extractStridedSlice S256x32 ![256 * (n.val / 16), 32 * (n.val % 16)] (k0_pay19 qr) (slices_rope n))
      (extractStridedSlice S256x32 ![256 * (n.val / 16), 0] kr (slices_row n)) (constant S256x256 .f32 0x00000000#32)))

/-- The head: its weights' average of the values. -/
def headAt (n : Fin 32) : FVec F S256x64 .f32 :=
  shapeCast S256x64 (divf
    (matmul dot_S256x256_S256x64_S256x64_1_0_0_1_n_n none (headE q qr kr kk n)
      (extractStridedSlice S256x64 ![256 * (n.val / 16), 64 * (n.val % 16)] vv (slices_head n)) (constant S256x64 .f32 0x00000000#32))
    (broadcastTo S256x64
      (shapeCast S256x1 (multiReduction .add [1] S256 (headE q qr kr kk n) 0x00000000#32 reduces_S256x256_S256 (.inl rfl) rfl) shapeCasts_S256_S256x1)
      broadcasts_S256x1_S256x64)) shapeCasts_S256x64_S256x64

theorem blk_lt (i : S512x1024.Idx) : blk i < 32 := by
  unfold blk
  have h0 : (i (0 : Fin 2)).val < 512 := (i (0 : Fin 2)).isLt
  have h1 : (i (1 : Fin 2)).val < 1024 := (i (1 : Fin 2)).isLt
  omega

/-- Where in its block a position lies. -/
def pos (i : S512x1024.Idx) : S256x64.Idx :=
  Fin.cons ⟨(i (0 : Fin 2)).val % 256, Nat.mod_lt _ (by decide)⟩ (Fin.cons ⟨(i (1 : Fin 2)).val % 64, Nat.mod_lt _ (by decide)⟩ finZeroElim)

/-- All the heads, side by side. -/
def heads : FVec F S512x1024 .f32 := fun i => headAt q qr kr kk vv ⟨blk i, blk_lt i⟩ (pos i)

/-- Block `n` of the gathered heads is head `n`. -/
theorem heads_block (n : Fin 32) (h) (x : S256x64.Idx) :
    headAt q qr kr kk vv n x = heads q qr kr kk vv ((Rect.unit (s := S512x1024) ![256 * (n.val / 16), 64 * (n.val % 16)] S256x64.size h).emb x) := by
  have h0 : (x (0 : Fin 2)).val < 256 := (x (0 : Fin 2)).isLt
  have h1 : (x (1 : Fin 2)).val < 64 := (x (1 : Fin 2)).isLt
  have hn : n.val < 32 := n.isLt
  unfold heads
  congr 1
  · refine Fin.ext ?_
    show n.val = 16 * ((256 * (n.val / 16) + 1 * (x (0 : Fin 2)).val) / 256) + (64 * (n.val % 16) + 1 * (x (1 : Fin 2)).val) / 64
    omega
  · funext ax
    refine Fin.ext ?_
    revert ax
    refine Fin.forall_fin_two.2 ⟨?_, ?_⟩
    · show (x (0 : Fin 2)).val = (256 * (n.val / 16) + 1 * (x (0 : Fin 2)).val) % 256
      omega
    · show (x (1 : Fin 2)).val = (64 * (n.val % 16) + 1 * (x (1 : Fin 2)).val) % 64
      omega

end Heads

section Step

variable {α : Type} {Q : α → sProp (MT nD τ sig Unit (Elt F) ℕ UU ℕ)}

/-- Storing head `n` into its block. -/
theorem wp_head (c : Dev nD) (q : FVec F S512x1024 .f32) (qr : FVec F S512x512 .f32) (kr : FVec F S512x32 .f32) (kk vv : FVec F S512x1024 .f32)
    (n : ℕ) (hn : n < 32) {a b : ℕ} (ha : a = 256 * (n / 16)) (hb : b = 64 * (n % 16)) (h) {w : Vec F S256x64 .f32} (hw : w = headAt q qr kr kk vv ⟨n, hn⟩) {hx hm}
    {k : PUnit → Prog (TpuEff nD τ sig (Elt F) Λ₀ .tc) α} :
    (obuf c (heads q qr kr kk vv) n : sProp 𝕄)
      ⊢ iprop((obuf c (heads q qr kr kk vv) (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch3) (Rect.unit (s := S512x1024) ![a, b] S256x64.size h) w Finset.univ hx hm) k) Q) := by
  subst ha hb
  exact wp_so c _ n _ _ rfl rfl h (fun x => by rw [hw]; exact heads_block q qr kr kk vv ⟨n, hn⟩ h x)

end Step

end Cert.KernelProof
-- ==== Proof.Body1.lean ====
/-
# The first half of the body

The stores of the local blocks, the barrier, and the nine copies.
-/
module

public import proofs.«01_k».proof.Proof.Heads

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staged input, whole. -/
abbrev stgs (c : Dev nD) (b : Ref sig .tc) (X : Buf (Elt F) ((c : Thread nD τ).loc b)) : sProp 𝕄 := (c : Thread nD τ).loc b ↦{fullShare} X

/-- What a device needs to start a copy: its share of the source and the two duties; -/
def sendTok (c : Dev nD) (ti o : Fin 3) : sProp 𝕄 :=
  iprop(slotPts m ρ c c ti 0 (shareTok fullShare 3 o) ∗ dutyTok ER (sendCell c ti o) 0 0 ∗ dutyTok ER (recvCell (nb o c) ti o) 0 0)
/-- and with the place it goes to. -/
def sendGo (c : Dev nD) (ti o : Fin 3) : sProp 𝕄 := iprop(slotAny (nb o c) ti (o.val + 1) ∗ sendTok m ρ c ti o)
/-- A copy under way. -/
def sent (c : Dev nD) (ti o : Fin 3) : sProp 𝕄 := cred (tallyAt (sendCell c ti o) () (Ncr ti))
/-- One slot of each of the three buffers. -/
def slots (c : Dev nD) (s : ℕ) : sProp 𝕄 := iprop(slotAny c 0 s ∗ slotAny c 1 s ∗ slotAny c 2 s)
/-- A copy under way and its place in the schedule. -/
abbrev owesR (c : Dev nD) (i : ℕ) : sProp 𝕄 := owesE c (Ot ((debtRs c).drop i))

section Copies
variable (K : Dev nD × Fin 19 → ℕ)
variable {α : Type} {Q : α → sProp (MT nD τ sig Unit (Elt F) ℕ UU ℕ)}
theorem amt0 (s : ℕ) (h) : (sl0 s h).view.dmaCredit = Ncr 0 := rfl
theorem wp_cpy0 (c n : Dev nD) (o : Fin 3) (hn : n = nb o c) {qS qR : DmaSem sig} (hqS : qS = sendS 0 o) (hqR : qR = recvS 0 o)
    (l : List (GSem nD τ sig × ℕ)) (s : ℕ) (hs : s = o.val + 1) (h h') {hsc : (sl0 s h).view.ref.isScScratch = false} {hsrc : (sl0 0 h').view.WordExact} {hdst : (sl0 s h).view.WordExact}
    {hsem : DmaTarget.Typed .vmem (.dma qR) (.remote (Dev.tc n : Thread nD τ) (sl0 s h) (.dma qS) hsc)} {k : PUnit → Prog (TpuEff nD τ sig (Elt F) Λ₀ .tc) α} :
    iprop(records m ρ K ∗ owesE c (Ot ((recvCell (nb o c) 0 o, Ncr 0) :: l)) ∗ sendGo m ρ c 0 o)
      ⊢ iprop(((sent c 0 o ∗ owesE c (Ot l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl0 0 h') (.remote (Dev.tc n : Thread nD τ) (sl0 s h) (.dma qS) hsc) (.dma qR) hsrc hdst hsem) k) Q) := by
  subst hs
  have hA : (sl0 (o.val + 1) h).view.amount (.dma qR) = Ncr 0 := amt0 _ h
  have H := wp_send m ρ K (Q := Q) (k := k) c n 0 o hn hqS hqR l (hsc := hsc) (hsrc := hsrc) (hdst := hdst) (hsem := hsem) (bc (X0 m ρ c)) hA
    (src0_eq m ρ c (shareTok fullShare 3 o) h') (dst0_any (F := F) (nb o c) (o.val + 1) h) (fun fd => dst0_landed m ρ (nb o c) c (o.val + 1) h h' fd)
  refine BIBase.Entails.trans ?_ H
  unfold sendGo sendTok
  iintro ⟨#HR, HO, Hd, Hp, Ht1, Ht2⟩
  isplitr; · iexact HR
  isplitl [HO]; · iexact HO
  isplitl [Hp]; · iexact Hp
  isplitl [Hd]; · iexact Hd
  isplitl [Ht1] <;> iassumption

theorem amt1 (s : ℕ) (h) : (sl1 s h).view.dmaCredit = Ncr 1 := rfl
theorem wp_cpy1 (c n : Dev nD) (o : Fin 3) (hn : n = nb o c) {qS qR : DmaSem sig} (hqS : qS = sendS 1 o) (hqR : qR = recvS 1 o)
    (l : List (GSem nD τ sig × ℕ)) (s : ℕ) (hs : s = o.val + 1) (h h') {hsc : (sl1 s h).view.ref.isScScratch = false} {hsrc : (sl1 0 h').view.WordExact} {hdst : (sl1 s h).view.WordExact}
    {hsem : DmaTarget.Typed .vmem (.dma qR) (.remote (Dev.tc n : Thread nD τ) (sl1 s h) (.dma qS) hsc)} {k : PUnit → Prog (TpuEff nD τ sig (Elt F) Λ₀ .tc) α} :
    iprop(records m ρ K ∗ owesE c (Ot ((recvCell (nb o c) 1 o, Ncr 1) :: l)) ∗ sendGo m ρ c 1 o)
      ⊢ iprop(((sent c 1 o ∗ owesE c (Ot l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl1 0 h') (.remote (Dev.tc n : Thread nD τ) (sl1 s h) (.dma qS) hsc) (.dma qR) hsrc hdst hsem) k) Q) := by
  subst hs
  have hA : (sl1 (o.val + 1) h).view.amount (.dma qR) = Ncr 1 := amt1 _ h
  have H := wp_send m ρ K (Q := Q) (k := k) c n 1 o hn hqS hqR l (hsc := hsc) (hsrc := hsrc) (hdst := hdst) (hsem := hsem) (bc (X1 m ρ c)) hA
    (src1_eq m ρ c (shareTok fullShare 3 o) h') (dst1_any (F := F) (nb o c) (o.val + 1) h) (fun fd => dst1_landed m ρ (nb o c) c (o.val + 1) h h' fd)
  refine BIBase.Entails.trans ?_ H
  unfold sendGo sendTok
  iintro ⟨#HR, HO, Hd, Hp, Ht1, Ht2⟩
  isplitr; · iexact HR
  isplitl [HO]; · iexact HO
  isplitl [Hp]; · iexact Hp
  isplitl [Hd]; · iexact Hd
  isplitl [Ht1] <;> iassumption

theorem amt2 (s : ℕ) (h) : (sl2 s h).view.dmaCredit = Ncr 2 := rfl
theorem wp_cpy2 (c n : Dev nD) (o : Fin 3) (hn : n = nb o c) {qS qR : DmaSem sig} (hqS : qS = sendS 2 o) (hqR : qR = recvS 2 o)
    (l : List (GSem nD τ sig × ℕ)) (s : ℕ) (hs : s = o.val + 1) (h h') {hsc : (sl2 s h).view.ref.isScScratch = false} {hsrc : (sl2 0 h').view.WordExact} {hdst : (sl2 s h).view.WordExact}
    {hsem : DmaTarget.Typed .vmem (.dma qR) (.remote (Dev.tc n : Thread nD τ) (sl2 s h) (.dma qS) hsc)} {k : PUnit → Prog (TpuEff nD τ sig (Elt F) Λ₀ .tc) α} :
    iprop(records m ρ K ∗ owesE c (Ot ((recvCell (nb o c) 2 o, Ncr 2) :: l)) ∗ sendGo m ρ c 2 o)
      ⊢ iprop(((sent c 2 o ∗ owesE c (Ot l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sl2 0 h') (.remote (Dev.tc n : Thread nD τ) (sl2 s h) (.dma qS) hsc) (.dma qR) hsrc hdst hsem) k) Q) := by
  subst hs
  have hA : (sl2 (o.val + 1) h).view.amount (.dma qR) = Ncr 2 := amt2 _ h
  have H := wp_send m ρ K (Q := Q) (k := k) c n 2 o hn hqS hqR l (hsc := hsc) (hsrc := hsrc) (hdst := hdst) (hsem := hsem) (bc (X2 m ρ c)) hA
    (src2_eq m ρ c (shareTok fullShare 3 o) h') (dst2_any (F := F) (nb o c) (o.val + 1) h) (fun fd => dst2_landed m ρ (nb o c) c (o.val + 1) h h' fd)
  refine BIBase.Entails.trans ?_ H
  unfold sendGo sendTok
  iintro ⟨#HR, HO, Hd, Hp, Ht1, Ht2⟩
  isplitr; · iexact HR
  isplitl [HO]; · iexact HO
  isplitl [Hp]; · iexact Hp
  isplitl [Hd]; · iexact Hd
  isplitl [Ht1] <;> iassumption

end Copies

section Parts
variable (K : Dev nD × Fin 19 → ℕ)

theorem part1 (c : Dev nD) {Q : (Σ' (d0 : Dev nD) (v2 : BitVec 32) (v5 : FVec F S512x1024 .f32) (v27 : Sems sig S_) (v29 : BitVec 32), BitVec 32) → sProp (MT nD τ sig Unit (Elt F) ℕ UU ℕ)} :
    iprop(stgs c cc0_stg0_0 (in0 m ρ c) ∗ stgs c cc0_stg1_0 (in1 m ρ c) ∗ stgs c cc0_stg2_0 (in2 m ρ c) ∗ stgs c cc0_stg3_0 (in3 m ρ c) ∗ slots c 0)
      ⊢ iprop((∀ v2 v29, (stgs c cc0_stg0_0 (in0 m ρ c) ∗ stgs c cc0_stg1_0 (in1 m ρ c) ∗ stgs c cc0_stg2_0 (in2 m ρ c) ∗ stgs c cc0_stg3_0 (in3 m ρ c) ∗ slotPts m ρ c c 0 0 fullShare ∗ slotPts m ρ c c 1 0 fullShare ∗ slotPts m ρ c c 2 0 fullShare) -∗ Q ⟨c, v2, k0_pay1 (in0 m ρ c), SemArray.scalar (sig.barrier 0 rfl), v29, 1#32⟩)
          -∗ wp frame (wpE (defs₀ (F := F)) 𝒱₀ (c : Thread nD τ) none) Set.univ
            (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  simp only [k0_part1_eq_skeleton]; unfold k0_part1_skel
  simp only [semSignalWord, semWaitWord, Prog.lift, Prog.bind_op, Prog.bind_ret, Prog.pure_eq_ret, wp_deviceId]
  unfold slots
  iintro ⟨Hi0, Hi1, Hi2, Hi3, H0, H1, H2⟩ Hk
  iapply (wp_ldx c (M := Memref.whole cc0_stg0_0) (X := in0 m ρ c) (Finset.subset_univ _) (Memref.readAt_unit_zero (Elt F) cc0_stg0_0 hz3 _ _)) $$ Hi0; iintro Hi0
  iapply (wp_ldx c (M := Memref.whole cc0_stg1_0) (X := in1 m ρ c) (Finset.subset_univ _) (Memref.readAt_unit_zero (Elt F) cc0_stg1_0 hz2 _ _)) $$ Hi1; iintro Hi1
  iapply (wp_la0 c 0 _) $$ H0; iintro %v10 H0
  iapply (wp_st0 m ρ c 0 _ rfl) $$ H0; iintro H0
  iapply (wp_ldx c (M := Memref.whole cc0_stg2_0) (X := in2 m ρ c) (Finset.subset_univ _) (Memref.readAt_unit_zero (Elt F) cc0_stg2_0 hz2 _ _)) $$ Hi2; iintro Hi2
  iapply (wp_la1 c 0 _) $$ H1; iintro %v18 H1
  iapply (wp_st1 m ρ c 0 _ rfl) $$ H1; iintro H1
  iapply (wp_ldx c (M := Memref.whole cc0_stg3_0) (X := in3 m ρ c) (Finset.subset_univ _) (Memref.readAt_unit_zero (Elt F) cc0_stg3_0 hz2 _ _)) $$ Hi3; iintro Hi3
  iapply (wp_la2 c 0 _) $$ H2; iintro %v24 H2
  iapply (wp_st2 m ρ c 0 _ rfl) $$ H2; iintro H2
  rw [wp_ret]; imodintro
  iapply Hk
  isplitl [Hi0]; · iexact Hi0
  isplitl [Hi1]; · iexact Hi1
  isplitl [Hi2]; · iexact Hi2
  isplitl [Hi3]; · iexact Hi3
  isplitl [H0]; · iexact H0
  isplitl [H1] <;> iassumption

theorem part2 (c : Dev nD) (v2 v29 : BitVec 32) {Q : (BitVec 32) → sProp (MT nD τ sig Unit (Elt F) ℕ UU ℕ)} :
    iprop(records m ρ K ∗ owesE c (O₀ c) ∗ (dutyTok ER (barCell (nb 0 c)) 0 (rv 0) ∗ dutyTok ER (barCell (nb 1 c)) 0 (rv 1) ∗ dutyTok ER (barCell (nb 2 c)) 0 (rv 2)) ∗ (slots c ((rv 0).val + 1) ∗ slots c ((rv 1).val + 1) ∗ slots c ((rv 2).val + 1))
        ∗ cred (tallyAt (barCell c) () 3) ∗ levAts L lv ∗ atPos ER (barCell c) 0 ∅ 0 ∗ sendTok m ρ c 0 0)
      ⊢ iprop((∀ v41, (owesR c 1 ∗ semVal (barCell c) 0 ∗ slotAny (nb 0 c) 1 1 ∗ slotAny (nb 0 c) 2 1 ∗ barPay c 1 ∗ barPay c 2 ∗ sent c 0 0) -∗ Q v41)
          -∗ wp frame (wpE (defs₀ (F := F)) 𝒱₀ (c : Thread nD τ) none) Set.univ
            (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 (SemArray.scalar (sig.barrier 0 rfl)) v29 1#32) Q) := by
  simp only [k0_part2_eq_skeleton]; unfold k0_part2_skel
  simp only [semSignalWord, semWaitWord, Prog.lift, Prog.bind_op, Prog.bind_ret, Prog.pure_eq_ret, wp_deviceId]
  unfold slots
  iintro ⟨#HR, HO, ⟨Ht0, Ht1, Ht2⟩, ⟨Hw0, Hw1, Hw2⟩, Hc, #Hlev, Hat, Hg⟩ Hk
  iapply (wp_sig m ρ K c _ 0 (dev1_eq c) ([(barCell (nb 1 c), 1), (barCell (nb 2 c), 1)] ++ debtRs c)) $$ [HO Ht0 Hw0]
  · isplitr; · iexact HR
    isplitl [HO]; · iexact HO
    isplitl [Ht0]; · iexact Ht0
    iexact Hw0
  iintro HO
  iapply (wp_sig m ρ K c _ 1 (dev2_eq c) ((barCell (nb 2 c), 1) :: debtRs c)) $$ [HO Ht1 Hw1]
  · isplitr; · iexact HR
    isplitl [HO]; · iexact HO
    isplitl [Ht1]; · iexact Ht1
    iexact Hw1
  iintro HO
  iapply (wp_sig m ρ K c _ 2 (dev3_eq c) (debtRs c)) $$ [HO Ht2 Hw2]
  · isplitr; · iexact HR
    isplitl [HO]; · iexact HO
    isplitl [Ht2]; · iexact Ht2
    iexact Hw2
  iintro HO
  iapply (wp_barwait m ρ K c) $$ [HO Hc Hat]
  · isplitr; · iexact HR
    isplitl [HO]; · iexact HO
    isplitl [Hc]; · iexact Hc
    isplitr; · iexact Hlev
    iexact Hat
  iintro ⟨HO, Hz, Hb0, Hb1, Hb2⟩
  ihave Hb0 := (Entails.of_eq (show barPay c 0 = iprop(slotAny (nb 0 c) 0 1 ∗ slotAny (nb 0 c) 1 1 ∗ slotAny (nb 0 c) 2 1) from rfl)) $$ Hb0
  icases Hb0 with ⟨Hd, Hd1, Hd2⟩
  iapply (wp_cpy0 m ρ K c _ 0 (dev4_eq c) rfl rfl ((debtRs c).drop 1) 1 rfl _ _) $$ [HO Hd Hg]
  · isplitr; · iexact HR
    isplitl [HO]; · iexact HO
    unfold sendGo
    isplitl [Hd]; · iexact Hd
    iexact Hg
  iintro ⟨Hs, HO⟩
  rw [wp_ret]; imodintro
  iapply Hk
  isplitl [HO]; · iexact HO
  isplitl [Hz]; · iexact Hz
  isplitl [Hd1]; · iexact Hd1
  isplitl [Hd2]; · iexact Hd2
  isplitl [Hb1]; · iexact Hb1
  isplitl [Hb2] <;> iassumption

theorem part3 (c : Dev nD) (v2 v41 : BitVec 32) {Q : (BitVec 32) → sProp (MT nD τ sig Unit (Elt F) ℕ UU ℕ)} :
    iprop(records m ρ K ∗ owesR c 1 ∗ sendGo m ρ c 1 0 ∗ sendGo m ρ c 2 0)
      ⊢ iprop((∀ v73, (owesR c 3 ∗ sent c 1 0 ∗ sent c 2 0) -∗ Q v73)
          -∗ wp frame (wpE (defs₀ (F := F)) 𝒱₀ (c : Thread nD τ) none) Set.univ
            (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v41) Q) := by
  simp only [k0_part3_eq_skeleton]; unfold k0_part3_skel
  simp only [semSignalWord, semWaitWord, Prog.lift, Prog.bind_op, Prog.bind_ret, Prog.pure_eq_ret, wp_deviceId]
  iintro ⟨#HR, HO, Hg10, Hg20⟩ Hk
  iapply (wp_cpy1 m ρ K c _ 0 (dev5_eq c) rfl rfl ((debtRs c).drop 2) 1 rfl _ _) $$ [HO Hg10]
  · isplitr; · iexact HR
    isplitl [HO]; · iexact HO
    iexact Hg10
  iintro ⟨Hs10, HO⟩
  iapply (wp_cpy2 m ρ K c _ 0 (dev6_eq c) rfl rfl ((debtRs c).drop 3) 1 rfl _ _) $$ [HO Hg20]
  · isplitr; · iexact HR
    isplitl [HO]; · iexact HO
    iexact Hg20
  iintro ⟨Hs20, HO⟩
  rw [wp_ret]; imodintro
  iapply Hk
  isplitl [HO]; · iexact HO
  isplitl [Hs10]; · iexact Hs10
  iexact Hs20

theorem part4 (c : Dev nD) (v2 v73 : BitVec 32) {Q : (BitVec 32) → sProp (MT nD τ sig Unit (Elt F) ℕ UU ℕ)} :
    iprop(records m ρ K ∗ owesR c 3 ∗ sendGo m ρ c 0 1 ∗ sendGo m ρ c 1 1 ∗ sendGo m ρ c 2 1)
      ⊢ iprop((∀ v105, (owesR c 6 ∗ sent c 0 1 ∗ sent c 1 1 ∗ sent c 2 1) -∗ Q v105)
          -∗ wp frame (wpE (defs₀ (F := F)) 𝒱₀ (c : Thread nD τ) none) Set.univ
            (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v73) Q) := by
  simp only [k0_part4_eq_skeleton]; unfold k0_part4_skel
  simp only [semSignalWord, semWaitWord, Prog.lift, Prog.bind_op, Prog.bind_ret, Prog.pure_eq_ret, wp_deviceId]
  iintro ⟨#HR, HO, Hg01, Hg11, Hg21⟩ Hk
  iapply (wp_cpy0 m ρ K c _ 1 (dev7_eq c) rfl rfl ((debtRs c).drop 4) 2 rfl _ _) $$ [HO Hg01]
  · isplitr; · iexact HR
    isplitl [HO]; · iexact HO
    iexact Hg01
  iintro ⟨Hs01, HO⟩
  iapply (wp_cpy1 m ρ K c _ 1 (dev8_eq c) rfl rfl ((debtRs c).drop 5) 2 rfl _ _) $$ [HO Hg11]
  · isplitr; · iexact HR
    isplitl [HO]; · iexact HO
    iexact Hg11
  iintro ⟨Hs11, HO⟩
  iapply (wp_cpy2 m ρ K c _ 1 (dev9_eq c) rfl rfl ((debtRs c).drop 6) 2 rfl _ _) $$ [HO Hg21]
  · isplitr; · iexact HR
    isplitl [HO]; · iexact HO
    iexact Hg21
  iintro ⟨Hs21, HO⟩
  rw [wp_ret]; imodintro
  iapply Hk
  isplitl [HO]; · iexact HO
  isplitl [Hs01]; · iexact Hs01
  isplitl [Hs11]; · iexact Hs11
  iexact Hs21

theorem part5 (c : Dev nD) (v105 : BitVec 32) {Q : PUnit → sProp (MT nD τ sig Unit (Elt F) ℕ UU ℕ)} :
    iprop(records m ρ K ∗ owesR c 6 ∗ sendGo m ρ c 0 2 ∗ sendGo m ρ c 1 2)
      ⊢ iprop(((owesR c 8 ∗ sent c 0 2 ∗ sent c 1 2) -∗ Q ⟨⟩)
          -∗ wp frame (wpE (defs₀ (F := F)) 𝒱₀ (c : Thread nD τ) none) Set.univ
            (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v105) Q) := by
  simp only [k0_part5_eq_skeleton]; unfold k0_part5_skel
  simp only [semSignalWord, semWaitWord, Prog.lift, Prog.bind_op, Prog.bind_ret, Prog.pure_eq_ret, wp_deviceId]
  iintro ⟨#HR, HO, Hg02, Hg12⟩ Hk
  iapply (wp_cpy0 m ρ K c _ 2 (dev10_eq c) rfl rfl ((debtRs c).drop 7) 3 rfl _ _) $$ [HO Hg02]
  · isplitr; · iexact HR
    isplitl [HO]; · iexact HO
    iexact Hg02
  iintro ⟨Hs02, HO⟩
  iapply (wp_cpy1 m ρ K c _ 2 (dev11_eq c) rfl rfl ((debtRs c).drop 8) 3 rfl _ _) $$ [HO Hg12]
  · isplitr; · iexact HR
    isplitl [HO]; · iexact HO
    iexact Hg12
  iintro ⟨Hs12, HO⟩
  rw [wp_ret]; imodintro
  iapply Hk
  isplitl [HO]; · iexact HO
  isplitl [Hs02]; · iexact Hs02
  iexact Hs12

theorem part6 (c : Dev nD) (v2 : BitVec 32) (v5 : FVec F S512x1024 .f32) (q : PosShare TreeShare) {Q : (Σ' (v138 : FVec F S512x1024 .f32) (v141 : FVec F S512x512 .f32) (v144 : FVec F S512x32 .f32) (v150 : FVec F S512x1024 .f32), FVec F S512x1024 .f32) → sProp (MT nD τ sig Unit (Elt F) ℕ UU ℕ)} :
    iprop(records m ρ K ∗ owesR c 8 ∗ sendGo m ρ c 2 2 ∗ stgs c cc0_stg4_0 (in4 m ρ c) ∗ stgs c cc0_stg5_0 (in5 m ρ c) ∗ stgs c cc0_stg6_0 (in6 m ρ c) ∗ slotPts m ρ c c 0 0 q ∗ slotPts m ρ c c 1 0 q ∗ slotPts m ρ c c 2 0 q)
      ⊢ iprop(((owesE c 0 ∗ sent c 2 2 ∗ stgs c cc0_stg4_0 (in4 m ρ c) ∗ stgs c cc0_stg5_0 (in5 m ρ c) ∗ stgs c cc0_stg6_0 (in6 m ρ c) ∗ slotPts m ρ c c 0 0 q ∗ slotPts m ρ c c 1 0 q ∗ slotPts m ρ c c 2 0 q) -∗ Q ⟨k0_pay5 v5 (in4 m ρ c), k0_pay6 v5 (in5 m ρ c), k0_pay7 v5 (in6 m ρ c), k0_pay8 (X0 m ρ c) (X1 m ρ c), k0_pay9 (X0 m ρ c) (X2 m ρ c)⟩)
          -∗ wp frame (wpE (defs₀ (F := F)) 𝒱₀ (c : Thread nD τ) none) Set.univ
            (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v5) Q) := by
  simp only [k0_part6_eq_skeleton]; unfold k0_part6_skel
  simp only [semSignalWord, semWaitWord, Prog.lift, Prog.bind_op, Prog.bind_ret, Prog.pure_eq_ret, wp_deviceId]
  iintro ⟨#HR, HO, Hg22, Hi4, Hi5, Hi6, H0, H1, H2⟩ Hk
  iapply (wp_cpy2 m ρ K c _ 2 (dev12_eq c) rfl rfl [] 3 rfl _ _) $$ [HO Hg22]
  · isplitr; · iexact HR
    isplitl [HO]; · iexact HO
    iexact Hg22
  iintro ⟨Hs22, HO⟩
  iapply (wp_ldx c (M := Memref.whole cc0_stg4_0) (X := in4 m ρ c) (Finset.subset_univ _) (Memref.readAt_unit_zero (Elt F) cc0_stg4_0 hz2 _ _)) $$ Hi4; iintro Hi4
  iapply (wp_ldx c (M := Memref.whole cc0_stg5_0) (X := in5 m ρ c) (Finset.subset_univ _) (Memref.readAt_unit_zero (Elt F) cc0_stg5_0 hz2 _ _)) $$ Hi5; iintro Hi5
  iapply (wp_ldx c (M := Memref.whole cc0_stg6_0) (X := in6 m ρ c) (Finset.subset_univ _) (Memref.readAt_unit_zero (Elt F) cc0_stg6_0 hz2 _ _)) $$ Hi6; iintro Hi6
  iapply (wp_ld0 m ρ c c 0 _ q) $$ H0; iintro H0
  iapply (wp_ld1 m ρ c c 0 _ q) $$ H1; iintro H1
  iapply (wp_ld0 m ρ c c 0 _ q) $$ H0; iintro H0
  iapply (wp_ld2 m ρ c c 0 _ q) $$ H2; iintro H2
  rw [wp_ret]; imodintro
  iapply Hk
  isplitl [HO]; · iexact HO
  isplitl [Hs22]; · iexact Hs22
  isplitl [Hi4]; · iexact Hi4
  isplitl [Hi5]; · iexact Hi5
  isplitl [Hi6]; · iexact Hi6
  isplitl [H0]; · iexact H0
  isplitl [H1]; · iexact H1
  iexact H2

end Parts

end Cert.KernelProof
-- ==== Proof.Body2.lean ====
/-
# The second half of the exchange

The arrivals are waited for and read, and the copies that left are waited for.
-/
module

public import proofs.«01_k».proof.Proof.Body1

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device needs to wait for an arrival, and what it then has; -/
def recvRes (c : Dev nD) (ti o : Fin 3) : sProp 𝕄 := iprop(cred (tallyAt (recvCell c ti o) () (Ncr ti)) ∗ atPos ER (recvCell c ti o) 0 ∅ 0)
def got (c : Dev nD) (ti o : Fin 3) : sProp 𝕄 := iprop(semVal (recvCell c ti o) 0 ∗ recvPay m ρ c ti o)
/-- and the same for a departure. -/
def sendRes (c : Dev nD) (ti o : Fin 3) : sProp 𝕄 := iprop(sent c ti o ∗ atPos ER (sendCell c ti o) 0 ∅ 0)
def back (c : Dev nD) (ti o : Fin 3) : sProp 𝕄 := iprop(semVal (sendCell c ti o) 0 ∗ sendPay m ρ c ti o)

section Waits
variable (K : Dev nD × Fin 19 → ℕ)
variable {α : Type} {Q : α → sProp (MT nD τ sig Unit (Elt F) ℕ UU ℕ)}

theorem wp_rw (c : Dev nD) (ti o : Fin 3) {q : DmaSem sig} (hq : q = recvS ti o) {sp sp' : Space} {s s' : Shape} {e e' : EltTy}
    {src : Memref sig .tc sp s e} {dst : Memref sig .tc sp' s' e'} {h1 : src.view.WordExact} {h2 : dst.view.WordExact}
    (hcr : dst.view.dmaCredit = Ncr ti) {k : PUnit → Prog (TpuEff nD τ sig (Elt F) Λ₀ .tc) α} :
    iprop(records m ρ K ∗ owesE c 0 ∗ recvRes c ti o)
      ⊢ iprop(((owesE c 0 ∗ got m ρ c ti o) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  refine BIBase.Entails.trans ?_ (wp_rwait m ρ K c ti o hq hcr)
  unfold recvRes
  iintro ⟨#HR, HO, Hc, Ha⟩
  isplitr; · iexact HR
  isplitl [HO]; · iexact HO
  isplitl [Hc] <;> iassumption
theorem wp_sw (c : Dev nD) (ti o : Fin 3) {q : DmaSem sig} (hq : q = sendS ti o) {sp sp' : Space} {s s' : Shape} {e e' : EltTy}
    {src : Memref sig .tc sp s e} {dst : Memref sig .tc sp' s' e'} {h1 : src.view.WordExact} {h2 : dst.view.WordExact}
    (hcr : dst.view.dmaCredit = Ncr ti) {k : PUnit → Prog (TpuEff nD τ sig (Elt F) Λ₀ .tc) α} :
    iprop(records m ρ K ∗ owesE c 0 ∗ sendRes c ti o)
      ⊢ iprop(((owesE c 0 ∗ back m ρ c ti o) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  refine BIBase.Entails.trans ?_ (wp_swait m ρ K c ti o hq hcr)
  unfold sendRes sent
  iintro ⟨#HR, HO, Hc, Ha⟩
  isplitr; · iexact HR
  isplitl [HO]; · iexact HO
  isplitl [Hc] <;> iassumption
/-- A load of the block that has arrived. -/
theorem wp_gl0 (c : Dev nD) (o : Fin 3) (s : ℕ) (hs : s = o.val + 1) (h) {hl} {k : Vec F S1x512x64 .bf16 → Prog (TpuEff nD τ sig (Elt F) Λ₀ .tc) α} :
    got m ρ c 0 o
      ⊢ iprop((got m ρ c 0 o -∗ wp frame (wpE (defs₀ (F := F)) 𝒱₀ (c : Thread nD τ) none) Set.univ (k (X0 m ρ (nb (rv o) c))) Q)
          -∗ wp frame (wpE (defs₀ (F := F)) 𝒱₀ (c : Thread nD τ) none) Set.univ
              (.op (.load (Memref.whole cc0_scratch0) (Rect.unit (s := S4x512x64) ![s, 0, 0] S1x512x64.size h).toLoadRect hl) k) Q) := by
  subst hs
  unfold got recvPay
  iintro ⟨Hz, H⟩ Hk
  iapply (wp_ld0 m ρ c (nb (rv o) c) (o.val + 1) h fullShare) $$ H; iintro H
  iapply Hk
  isplitl [Hz] <;> iassumption
/-- A load of the block that has arrived. -/
theorem wp_gl1 (c : Dev nD) (o : Fin 3) (s : ℕ) (hs : s = o.val + 1) (h) {hl} {k : Vec F S1x64x1024 .fp8e4m3 → Prog (TpuEff nD τ sig (Elt F) Λ₀ .tc) α} :
    got m ρ c 1 o
      ⊢ iprop((got m ρ c 1 o -∗ wp frame (wpE (defs₀ (F := F)) 𝒱₀ (c : Thread nD τ) none) Set.univ (k (X1 m ρ (nb (rv o) c))) Q)
          -∗ wp frame (wpE (defs₀ (F := F)) 𝒱₀ (c : Thread nD τ) none) Set.univ
              (.op (.load (Memref.whole cc0_scratch1) (Rect.unit (s := S4x64x1024) ![s, 0, 0] S1x64x1024.size h).toLoadRect hl) k) Q) := by
  subst hs
  unfold got recvPay
  iintro ⟨Hz, H⟩ Hk
  iapply (wp_ld1 m ρ c (nb (rv o) c) (o.val + 1) h fullShare) $$ H; iintro H
  iapply Hk
  isplitl [Hz] <;> iassumption
/-- A load of the block that has arrived. -/
theorem wp_gl2 (c : Dev nD) (o : Fin 3) (s : ℕ) (hs : s = o.val + 1) (h) {hl} {k : Vec F S1x64x1024 .bf16 → Prog (TpuEff nD τ sig (Elt F) Λ₀ .tc) α} :
    got m ρ c 2 o
      ⊢ iprop((got m ρ c 2 o -∗ wp frame (wpE (defs₀ (F := F)) 𝒱₀ (c : Thread nD τ) none) Set.univ (k (X2 m ρ (nb (rv o) c))) Q)
          -∗ wp frame (wpE (defs₀ (F := F)) 𝒱₀ (c : Thread nD τ) none) Set.univ
              (.op (.load (Memref.whole cc0_scratch2) (Rect.unit (s := S4x64x1024) ![s, 0, 0] S1x64x1024.size h).toLoadRect hl) k) Q) := by
  subst hs
  unfold got recvPay
  iintro ⟨Hz, H⟩ Hk
  iapply (wp_ld2 m ρ c (nb (rv o) c) (o.val + 1) h fullShare) $$ H; iintro H
  iapply Hk
  isplitl [Hz] <;> iassumption

end Waits

section Parts
variable (K : Dev nD × Fin 19 → ℕ)

theorem part7 (c : Dev nD) (v2 : BitVec 32) {Q : FVec F S512x64 .bf16 → sProp (MT nD τ sig Unit (Elt F) ℕ UU ℕ)} :
    iprop(records m ρ K ∗ owesE c 0 ∗ recvRes c 0 0 ∗ recvRes c 1 0 ∗ recvRes c 2 0)
      ⊢ iprop(((owesE c 0 ∗ got m ρ c 0 0 ∗ got m ρ c 1 0 ∗ got m ρ c 2 0) -∗ Q (k0_pay10 (X0 m ρ (nb (rv 0) c))))
          -∗ wp frame (wpE (defs₀ (F := F)) 𝒱₀ (c : Thread nD τ) none) Set.univ
            (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2) Q) := by
  simp only [k0_part7_eq_skeleton]; unfold k0_part7_skel
  simp only [semSignalWord, semWaitWord, Prog.lift, Prog.bind_op, Prog.bind_ret, Prog.pure_eq_ret, wp_deviceId]
  iintro ⟨#HR, HO, Hr00, Hr10, Hr20⟩ Hk
  iapply (wp_rw m ρ K c 0 0 rfl rfl) $$ [HO Hr00]
  · isplitr; · iexact HR
    isplitl [HO]; · iexact HO
    iexact Hr00
  iintro ⟨HO, Hr00⟩
  iapply (wp_rw m ρ K c 1 0 rfl rfl) $$ [HO Hr10]
  · isplitr; · iexact HR
    isplitl [HO]; · iexact HO
    iexact Hr10
  iintro ⟨HO, Hr10⟩
  iapply (wp_rw m ρ K c 2 0 rfl rfl) $$ [HO Hr20]
  · isplitr; · iexact HR
    isplitl [HO]; · iexact HO
    iexact Hr20
  iintro ⟨HO, Hr20⟩
  iapply (wp_gl0 m ρ c 0 1 rfl _) $$ Hr00; iintro Hr00
  rw [wp_ret]; imodintro
  iapply Hk
  isplitl [HO]; · iexact HO
  isplitl [Hr00]; · iexact Hr00
  isplitl [Hr10]; · iexact Hr10
  iexact Hr20

theorem part8 (c : Dev nD) (v2 : BitVec 32) (v150 v155 : FVec F S512x1024 .f32) (v181 : FVec F S512x64 .bf16) {Q : (Σ' (v186 : FVec F S512x1024 .f32), FVec F S512x1024 .f32) → sProp (MT nD τ sig Unit (Elt F) ℕ UU ℕ)} :
    iprop(records m ρ K ∗ owesE c 0 ∗ got m ρ c 0 0 ∗ got m ρ c 1 0 ∗ got m ρ c 2 0 ∗ recvRes c 0 2)
      ⊢ iprop(((owesE c 0 ∗ got m ρ c 0 0 ∗ got m ρ c 1 0 ∗ got m ρ c 2 0 ∗ got m ρ c 0 2) -∗ Q ⟨k0_pay11 v150 v181 (X1 m ρ (nb (rv 0) c)), k0_pay12 v155 (X0 m ρ (nb (rv 0) c)) (X2 m ρ (nb (rv 0) c))⟩)
          -∗ wp frame (wpE (defs₀ (F := F)) 𝒱₀ (c : Thread nD τ) none) Set.univ
            (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v150 v155 v181) Q) := by
  simp only [k0_part8_eq_skeleton]; unfold k0_part8_skel
  simp only [semSignalWord, semWaitWord, Prog.lift, Prog.bind_op, Prog.bind_ret, Prog.pure_eq_ret, wp_deviceId]
  iintro ⟨#HR, HO, Hr00, Hr10, Hr20, Hr02⟩ Hk
  iapply (wp_gl1 m ρ c 0 1 rfl _) $$ Hr10; iintro Hr10
  iapply (wp_gl0 m ρ c 0 1 rfl _) $$ Hr00; iintro Hr00
  iapply (wp_gl2 m ρ c 0 1 rfl _) $$ Hr20; iintro Hr20
  iapply (wp_rw m ρ K c 0 2 rfl rfl) $$ [HO Hr02]
  · isplitr; · iexact HR
    isplitl [HO]; · iexact HO
    iexact Hr02
  iintro ⟨HO, Hr02⟩
  rw [wp_ret]; imodintro
  iapply Hk
  isplitl [HO]; · iexact HO
  isplitl [Hr00]; · iexact Hr00
  isplitl [Hr10]; · iexact Hr10
  isplitl [Hr20]; · iexact Hr20
  iexact Hr02

theorem part9 (c : Dev nD) (v2 : BitVec 32) (v186 v192 : FVec F S512x1024 .f32) {Q : (Σ' (v223 : FVec F S512x1024 .f32), FVec F S512x1024 .f32) → sProp (MT nD τ sig Unit (Elt F) ℕ UU ℕ)} :
    iprop(records m ρ K ∗ owesE c 0 ∗ got m ρ c 0 2 ∗ recvRes c 1 2 ∗ recvRes c 2 2)
      ⊢ iprop(((owesE c 0 ∗ got m ρ c 0 2 ∗ got m ρ c 1 2 ∗ got m ρ c 2 2) -∗ Q ⟨k0_pay13 v186 (X0 m ρ (nb (rv 2) c)) (X1 m ρ (nb (rv 2) c)), k0_pay14 v192 (X0 m ρ (nb (rv 2) c)) (X2 m ρ (nb (rv 2) c))⟩)
          -∗ wp frame (wpE (defs₀ (F := F)) 𝒱₀ (c : Thread nD τ) none) Set.univ
            (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2 v186 v192) Q) := by
  simp only [k0_part9_eq_skeleton]; unfold k0_part9_skel
  simp only [semSignalWord, semWaitWord, Prog.lift, Prog.bind_op, Prog.bind_ret, Prog.pure_eq_ret, wp_deviceId]
  iintro ⟨#HR, HO, Hr02, Hr12, Hr22⟩ Hk
  iapply (wp_rw m ρ K c 1 2 rfl rfl) $$ [HO Hr12]
  · isplitr; · iexact HR
    isplitl [HO]; · iexact HO
    iexact Hr12
  iintro ⟨HO, Hr12⟩
  iapply (wp_rw m ρ K c 2 2 rfl rfl) $$ [HO Hr22]
  · isplitr; · iexact HR
    isplitl [HO]; · iexact HO
    iexact Hr22
  iintro ⟨HO, Hr22⟩
  iapply (wp_gl0 m ρ c 2 3 rfl _) $$ Hr02; iintro Hr02
  iapply (wp_gl1 m ρ c 2 3 rfl _) $$ Hr12; iintro Hr12
  iapply (wp_gl0 m ρ c 2 3 rfl _) $$ Hr02; iintro Hr02
  iapply (wp_gl2 m ρ c 2 3 rfl _) $$ Hr22; iintro Hr22
  rw [wp_ret]; imodintro
  iapply Hk
  isplitl [HO]; · iexact HO
  isplitl [Hr02]; · iexact Hr02
  isplitl [Hr12]; · iexact Hr12
  iexact Hr22

theorem part10 (c : Dev nD) (v2 : BitVec 32) {Q : FVec F S512x64 .bf16 → sProp (MT nD τ sig Unit (Elt F) ℕ UU ℕ)} :
    iprop(records m ρ K ∗ owesE c 0 ∗ recvRes c 0 1 ∗ recvRes c 1 1 ∗ recvRes c 2 1)
      ⊢ iprop(((owesE c 0 ∗ got m ρ c 0 1 ∗ got m ρ c 1 1 ∗ got m ρ c 2 1) -∗ Q (k0_pay15 (X0 m ρ (nb (rv 1) c))))
          -∗ wp frame (wpE (defs₀ (F := F)) 𝒱₀ (c : Thread nD τ) none) Set.univ
            (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v2) Q) := by
  simp only [k0_part10_eq_skeleton]; unfold k0_part10_skel
  simp only [semSignalWord, semWaitWord, Prog.lift, Prog.bind_op, Prog.bind_ret, Prog.pure_eq_ret, wp_deviceId]
  iintro ⟨#HR, HO, Hr01, Hr11, Hr21⟩ Hk
  iapply (wp_rw m ρ K c 0 1 rfl rfl) $$ [HO Hr01]
  · isplitr; · iexact HR
    isplitl [HO]; · iexact HO
    iexact Hr01
  iintro ⟨HO, Hr01⟩
  iapply (wp_rw m ρ K c 1 1 rfl rfl) $$ [HO Hr11]
  · isplitr; · iexact HR
    isplitl [HO]; · iexact HO
    iexact Hr11
  iintro ⟨HO, Hr11⟩
  iapply (wp_rw m ρ K c 2 1 rfl rfl) $$ [HO Hr21]
  · isplitr; · iexact HR
    isplitl [HO]; · iexact HO
    iexact Hr21
  iintro ⟨HO, Hr21⟩
  iapply (wp_gl0 m ρ c 1 2 rfl _) $$ Hr01; iintro Hr01
  rw [wp_ret]; imodintro
  iapply Hk
  isplitl [HO]; · iexact HO
  isplitl [Hr01]; · iexact Hr01
  isplitl [Hr11]; · iexact Hr11
  iexact Hr21

theorem part11 (c : Dev nD) (v223 v229 : FVec F S512x1024 .f32) (v255 : FVec F S512x64 .bf16) {Q : (Σ' (v260 : FVec F S512x1024 .f32), FVec F S512x1024 .f32) → sProp (MT nD τ sig Unit (Elt F) ℕ UU ℕ)} :
    iprop(records m ρ K ∗ owesE c 0 ∗ got m ρ c 0 1 ∗ got m ρ c 1 1 ∗ got m ρ c 2 1 ∗ sendRes c 0 0 ∗ sendRes c 1 0)
      ⊢ iprop(((owesE c 0 ∗ got m ρ c 0 1 ∗ got m ρ c 1 1 ∗ got m ρ c 2 1 ∗ back m ρ c 0 0 ∗ back m ρ c 1 0) -∗ Q ⟨k0_pay16 v223 v255 (X1 m ρ (nb (rv 1) c)), k0_pay17 v229 (X0 m ρ (nb (rv 1) c)) (X2 m ρ (nb (rv 1) c))⟩)
          -∗ wp frame (wpE (defs₀ (F := F)) 𝒱₀ (c : Thread nD τ) none) Set.univ
            (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v223 v229 v255) Q) := by
  simp only [k0_part11_eq_skeleton]; unfold k0_part11_skel
  simp only [semSignalWord, semWaitWord, Prog.lift, Prog.bind_op, Prog.bind_ret, Prog.pure_eq_ret, wp_deviceId]
  iintro ⟨#HR, HO, Hr01, Hr11, Hr21, Hr00, Hr10⟩ Hk
  iapply (wp_gl1 m ρ c 1 2 rfl _) $$ Hr11; iintro Hr11
  iapply (wp_gl0 m ρ c 1 2 rfl _) $$ Hr01; iintro Hr01
  iapply (wp_gl2 m ρ c 1 2 rfl _) $$ Hr21; iintro Hr21
  iapply (wp_sw m ρ K c 0 0 rfl rfl) $$ [HO Hr00]
  · isplitr; · iexact HR
    isplitl [HO]; · iexact HO
    iexact Hr00
  iintro ⟨HO, Hr00⟩
  iapply (wp_sw m ρ K c 1 0 rfl rfl) $$ [HO Hr10]
  · isplitr; · iexact HR
    isplitl [HO]; · iexact HO
    iexact Hr10
  iintro ⟨HO, Hr10⟩
  rw [wp_ret]; imodintro
  iapply Hk
  isplitl [HO]; · iexact HO
  isplitl [Hr01]; · iexact Hr01
  isplitl [Hr11]; · iexact Hr11
  isplitl [Hr21]; · iexact Hr21
  isplitl [Hr00]; · iexact Hr00
  iexact Hr10

theorem part12 (c : Dev nD) {Q : PUnit → sProp (MT nD τ sig Unit (Elt F) ℕ UU ℕ)} :
    iprop(records m ρ K ∗ owesE c 0 ∗ sendRes c 2 0 ∗ sendRes c 0 1 ∗ sendRes c 1 1)
      ⊢ iprop(((owesE c 0 ∗ back m ρ c 2 0 ∗ back m ρ c 0 1 ∗ back m ρ c 1 1) -∗ Q ⟨⟩)
          -∗ wp frame (wpE (defs₀ (F := F)) 𝒱₀ (c : Thread nD τ) none) Set.univ
            (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  simp only [k0_part12_eq_skeleton]; unfold k0_part12_skel
  simp only [semSignalWord, semWaitWord, Prog.lift, Prog.bind_op, Prog.bind_ret, Prog.pure_eq_ret, wp_deviceId]
  iintro ⟨#HR, HO, Hr20, Hr01, Hr11⟩ Hk
  iapply (wp_sw m ρ K c 2 0 rfl rfl) $$ [HO Hr20]
  · isplitr; · iexact HR
    isplitl [HO]; · iexact HO
    iexact Hr20
  iintro ⟨HO, Hr20⟩
  iapply (wp_sw m ρ K c 0 1 rfl rfl) $$ [HO Hr01]
  · isplitr; · iexact HR
    isplitl [HO]; · iexact HO
    iexact Hr01
  iintro ⟨HO, Hr01⟩
  iapply (wp_sw m ρ K c 1 1 rfl rfl) $$ [HO Hr11]
  · isplitr; · iexact HR
    isplitl [HO]; · iexact HO
    iexact Hr11
  iintro ⟨HO, Hr11⟩
  rw [wp_ret]; imodintro
  iapply Hk
  isplitl [HO]; · iexact HO
  isplitl [Hr20]; · iexact Hr20
  isplitl [Hr01]; · iexact Hr01
  iexact Hr11

theorem part13 (c : Dev nD) {Q : PUnit → sProp (MT nD τ sig Unit (Elt F) ℕ UU ℕ)} :
    iprop(records m ρ K ∗ owesE c 0 ∗ sendRes c 2 1 ∗ sendRes c 0 2 ∗ sendRes c 1 2)
      ⊢ iprop(((owesE c 0 ∗ back m ρ c 2 1 ∗ back m ρ c 0 2 ∗ back m ρ c 1 2) -∗ Q ⟨⟩)
          -∗ wp frame (wpE (defs₀ (F := F)) 𝒱₀ (c : Thread nD τ) none) Set.univ
            (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  simp only [k0_part13_eq_skeleton]; unfold k0_part13_skel
  simp only [semSignalWord, semWaitWord, Prog.lift, Prog.bind_op, Prog.bind_ret, Prog.pure_eq_ret, wp_deviceId]
  iintro ⟨#HR, HO, Hr21, Hr02, Hr12⟩ Hk
  iapply (wp_sw m ρ K c 2 1 rfl rfl) $$ [HO Hr21]
  · isplitr; · iexact HR
    isplitl [HO]; · iexact HO
    iexact Hr21
  iintro ⟨HO, Hr21⟩
  iapply (wp_sw m ρ K c 0 2 rfl rfl) $$ [HO Hr02]
  · isplitr; · iexact HR
    isplitl [HO]; · iexact HO
    iexact Hr02
  iintro ⟨HO, Hr02⟩
  iapply (wp_sw m ρ K c 1 2 rfl rfl) $$ [HO Hr12]
  · isplitr; · iexact HR
    isplitl [HO]; · iexact HO
    iexact Hr12
  iintro ⟨HO, Hr12⟩
  rw [wp_ret]; imodintro
  iapply Hk
  isplitl [HO]; · iexact HO
  isplitl [Hr21]; · iexact Hr21
  isplitl [Hr02]; · iexact Hr02
  iexact Hr12

end Parts

end Cert.KernelProof
-- ==== Proof.Pays.lean ====
/-
# The payloads

What each store of the body writes is the head of its pair.
-/
module

public import proofs.«01_k».proof.Proof.Heads

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (q : FVec F S512x1024 .f32) (qr : FVec F S512x512 .f32) (kr : FVec F S512x32 .f32) (kk vv : FVec F S512x1024 .f32)

theorem head0 : k0_pay21 q qr kr kk vv = headAt q qr kr kk vv ⟨0, by decide⟩ := by
  unfold k0_pay21 headAt headE; rfl
theorem head1 : k0_pay22 q qr kr kk vv = headAt q qr kr kk vv ⟨1, by decide⟩ := by
  unfold k0_pay22 headAt headE; rfl
theorem head2 : k0_pay25 vv (k0_pay20 kr) (k0_pay23 q kk) (k0_pay24 qr) (constant S256x256 .f32 0x00000000#32) = headAt q qr kr kk vv ⟨2, by decide⟩ := by
  unfold k0_pay25 k0_pay24 k0_pay23 k0_pay20 headAt headE; rfl
theorem head3 : k0_pay26 kk vv (k0_pay18 q) (k0_pay19 qr) (k0_pay20 kr) = headAt q qr kr kk vv ⟨3, by decide⟩ := by
  unfold k0_pay26 k0_pay20 headAt headE; rfl
theorem head4 : k0_pay28 (k0_pay27 kk vv (k0_pay18 q) (k0_pay19 qr) (k0_pay20 kr)) = headAt q qr kr kk vv ⟨4, by decide⟩ := by
  unfold k0_pay28 k0_pay27 k0_pay20 headAt headE; rfl
theorem head5 : k0_pay29 kk vv (k0_pay18 q) (k0_pay19 qr) (k0_pay20 kr) = headAt q qr kr kk vv ⟨5, by decide⟩ := by
  unfold k0_pay29 k0_pay20 headAt headE; rfl
theorem head6 : k0_pay30 kk vv (k0_pay18 q) (k0_pay19 qr) (k0_pay20 kr) = headAt q qr kr kk vv ⟨6, by decide⟩ := by
  unfold k0_pay30 k0_pay20 headAt headE; rfl
theorem head7 : k0_pay33 vv (k0_pay31 kk (k0_pay18 q) (k0_pay19 qr) (k0_pay20 kr)) (k0_pay32 kk (k0_pay18 q) (k0_pay19 qr) (k0_pay20 kr)) = headAt q qr kr kk vv ⟨7, by decide⟩ := by
  unfold k0_pay33 k0_pay32 k0_pay31 k0_pay20 headAt headE; rfl
theorem head8 : k0_pay34 kk vv (k0_pay18 q) (k0_pay19 qr) (k0_pay20 kr) = headAt q qr kr kk vv ⟨8, by decide⟩ := by
  unfold k0_pay34 k0_pay20 headAt headE; rfl
theorem head9 : k0_pay35 kk vv (k0_pay18 q) (k0_pay19 qr) (k0_pay20 kr) = headAt q qr kr kk vv ⟨9, by decide⟩ := by
  unfold k0_pay35 k0_pay20 headAt headE; rfl
theorem head10 : k0_pay38 vv (k0_pay19 qr) (k0_pay20 kr) (k0_pay36 (k0_pay18 q)) (k0_pay37 kk) = headAt q qr kr kk vv ⟨10, by decide⟩ := by
  unfold k0_pay38 k0_pay37 k0_pay36 k0_pay20 headAt headE; rfl
theorem head11 : k0_pay39 kk vv (k0_pay18 q) (k0_pay19 qr) (k0_pay20 kr) = headAt q qr kr kk vv ⟨11, by decide⟩ := by
  unfold k0_pay39 k0_pay20 headAt headE; rfl
theorem head12 : k0_pay43 (k0_pay41 kk vv (k0_pay18 q) (k0_pay19 qr) (k0_pay20 kr)) (k0_pay42 kk (k0_pay18 q) (k0_pay19 qr) (k0_pay20 kr)) = headAt q qr kr kk vv ⟨12, by decide⟩ := by
  unfold k0_pay43 k0_pay42 k0_pay41 k0_pay20 headAt headE; rfl
theorem head13 : k0_pay44 kk vv (k0_pay18 q) (k0_pay19 qr) (k0_pay20 kr) = headAt q qr kr kk vv ⟨13, by decide⟩ := by
  unfold k0_pay44 k0_pay20 headAt headE; rfl
theorem head14 : k0_pay45 kk vv (k0_pay18 q) (k0_pay19 qr) (k0_pay20 kr) = headAt q qr kr kk vv ⟨14, by decide⟩ := by
  unfold k0_pay45 k0_pay20 headAt headE; rfl
theorem head15 : k0_pay48 vv (k0_pay46 kk (k0_pay18 q)) (k0_pay47 (k0_pay19 qr) (k0_pay20 kr)) = headAt q qr kr kk vv ⟨15, by decide⟩ := by
  unfold k0_pay48 k0_pay47 k0_pay46 k0_pay20 headAt headE; rfl
theorem head16 : k0_pay50 kr kk vv (k0_pay18 q) (k0_pay19 qr) = headAt q qr kr kk vv ⟨16, by decide⟩ := by
  unfold k0_pay50 headAt headE; rfl
theorem head17 : k0_pay52 (k0_pay51 kr kk vv (k0_pay18 q) (k0_pay19 qr)) = headAt q qr kr kk vv ⟨17, by decide⟩ := by
  unfold k0_pay52 k0_pay51 headAt headE; rfl
theorem head18 : k0_pay53 kk vv (k0_pay18 q) (k0_pay19 qr) (k0_pay49 kr) = headAt q qr kr kk vv ⟨18, by decide⟩ := by
  unfold k0_pay53 k0_pay49 headAt headE; rfl
theorem head19 : k0_pay54 kk vv (k0_pay18 q) (k0_pay19 qr) (k0_pay49 kr) = headAt q qr kr kk vv ⟨19, by decide⟩ := by
  unfold k0_pay54 k0_pay49 headAt headE; rfl
theorem head20 : k0_pay57 vv (k0_pay55 kk (k0_pay18 q) (k0_pay19 qr) (k0_pay49 kr)) (k0_pay56 kk (k0_pay18 q) (k0_pay19 qr) (k0_pay49 kr)) = headAt q qr kr kk vv ⟨20, by decide⟩ := by
  unfold k0_pay57 k0_pay56 k0_pay55 k0_pay49 headAt headE; rfl
theorem head21 : k0_pay58 kk vv (k0_pay18 q) (k0_pay19 qr) (k0_pay49 kr) = headAt q qr kr kk vv ⟨21, by decide⟩ := by
  unfold k0_pay58 k0_pay49 headAt headE; rfl
theorem head22 : k0_pay59 kk vv (k0_pay18 q) (k0_pay19 qr) (k0_pay49 kr) = headAt q qr kr kk vv ⟨22, by decide⟩ := by
  unfold k0_pay59 k0_pay49 headAt headE; rfl
theorem head23 : k0_pay62 vv (k0_pay19 qr) (k0_pay49 kr) (k0_pay60 (k0_pay18 q)) (k0_pay61 kk) = headAt q qr kr kk vv ⟨23, by decide⟩ := by
  unfold k0_pay62 k0_pay61 k0_pay60 k0_pay49 headAt headE; rfl
theorem head24 : k0_pay63 kk vv (k0_pay18 q) (k0_pay19 qr) (k0_pay49 kr) = headAt q qr kr kk vv ⟨24, by decide⟩ := by
  unfold k0_pay63 k0_pay49 headAt headE; rfl
theorem head25 : k0_pay67 (k0_pay65 kk vv (k0_pay18 q) (k0_pay19 qr) (k0_pay49 kr)) (k0_pay66 kk (k0_pay18 q) (k0_pay19 qr) (k0_pay49 kr)) = headAt q qr kr kk vv ⟨25, by decide⟩ := by
  unfold k0_pay67 k0_pay66 k0_pay65 k0_pay49 headAt headE; rfl
theorem head26 : k0_pay68 kk vv (k0_pay18 q) (k0_pay19 qr) (k0_pay49 kr) = headAt q qr kr kk vv ⟨26, by decide⟩ := by
  unfold k0_pay68 k0_pay49 headAt headE; rfl
theorem head27 : k0_pay69 kk vv (k0_pay18 q) (k0_pay19 qr) (k0_pay49 kr) = headAt q qr kr kk vv ⟨27, by decide⟩ := by
  unfold k0_pay69 k0_pay49 headAt headE; rfl
theorem head28 : k0_pay72 vv (k0_pay70 kk (k0_pay18 q)) (k0_pay71 (k0_pay19 qr) (k0_pay49 kr)) = headAt q qr kr kk vv ⟨28, by decide⟩ := by
  unfold k0_pay72 k0_pay71 k0_pay70 k0_pay49 headAt headE; rfl
theorem head29 : k0_pay73 kk vv (k0_pay18 q) (k0_pay19 qr) (k0_pay49 kr) = headAt q qr kr kk vv ⟨29, by decide⟩ := by
  unfold k0_pay73 k0_pay49 headAt headE; rfl
theorem head30 : k0_pay75 (k0_pay74 kk vv (k0_pay18 q) (k0_pay19 qr) (k0_pay49 kr)) = headAt q qr kr kk vv ⟨30, by decide⟩ := by
  unfold k0_pay75 k0_pay74 k0_pay49 headAt headE; rfl
theorem head31 : k0_pay76 kk vv (k0_pay18 q) (k0_pay19 qr) (k0_pay49 kr) = headAt q qr kr kk vv ⟨31, by decide⟩ := by
  unfold k0_pay76 k0_pay49 headAt headE; rfl

end Cert.KernelProof
-- ==== Proof.Body3.lean ====
/-
# The heads of the body

The 32 heads, computed and gathered.
-/
module

public import proofs.«01_k».proof.Proof.Body2
public import proofs.«01_k».proof.Proof.Pays

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 19 → ℕ)

theorem part14 (c : Dev nD) (q : FVec F S512x1024 .f32) (qr : FVec F S512x512 .f32) (kr : FVec F S512x32 .f32) (kk vv : FVec F S512x1024 .f32) {Q : (Σ' (v322 : FVec F S512x1024 .f32) (v324 : FVec F S512x512 .f32) (v325 : FVec F S256x32 .f32) (v360 : FVec F S256x256 .f32) (v361 : FVec F S256x32 .f32), FVec F S256x256 .f32) → sProp (MT nD τ sig Unit (Elt F) ℕ UU ℕ)} :
    iprop(records m ρ K ∗ owesE c 0 ∗ sendRes c 2 2 ∗ obuf c (heads q qr kr kk vv) 0)
      ⊢ iprop(((owesE c 0 ∗ back m ρ c 2 2 ∗ obuf c (heads q qr kr kk vv) 2) -∗ Q ⟨k0_pay18 q, k0_pay19 qr, k0_pay20 kr, k0_pay23 q kk, k0_pay24 qr, constant S256x256 .f32 0x00000000#32⟩)
          -∗ wp frame (wpE (defs₀ (F := F)) 𝒱₀ (c : Thread nD τ) none) Set.univ
            (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 q qr kr kk vv) Q) := by
  simp only [k0_part14_eq_skeleton]; unfold k0_part14_skel
  simp only [semSignalWord, semWaitWord, Prog.lift, Prog.bind_op, Prog.bind_ret, Prog.pure_eq_ret, wp_deviceId]
  iintro ⟨#HR, HO, Hr22, Ho⟩ Hk
  iapply (wp_sw m ρ K c 2 2 rfl rfl) $$ [HO Hr22]
  · isplitr; · iexact HR
    isplitl [HO]; · iexact HO
    iexact Hr22
  iintro ⟨HO, Hr22⟩
  iapply (wp_lo c (heads q qr kr kk vv) 0) $$ Ho; iintro %w0 Ho
  iapply (wp_head c q qr kr kk vv 0 (by decide) (by rfl) (by rfl) _ (head0 q qr kr kk vv)) $$ Ho; iintro Ho
  iapply (wp_lo c (heads q qr kr kk vv) 1) $$ Ho; iintro %w1 Ho
  iapply (wp_head c q qr kr kk vv 1 (by decide) (by rfl) (by rfl) _ (head1 q qr kr kk vv)) $$ Ho; iintro Ho
  rw [wp_ret]; imodintro
  iapply Hk
  isplitl [HO]; · iexact HO
  isplitl [Hr22]; · iexact Hr22
  iexact Ho

theorem part15 (c : Dev nD) (q : FVec F S512x1024 .f32) (qr : FVec F S512x512 .f32) (kr : FVec F S512x32 .f32) (kk vv : FVec F S512x1024 .f32) {Q : (Σ' (_ : FVec F S256x64 .f32), Vec F S256x64 .f32) → sProp (MT nD τ sig Unit (Elt F) ℕ UU ℕ)} :
    iprop(obuf c (heads q qr kr kk vv) 2)
      ⊢ iprop((∀ w, (obuf c (heads q qr kr kk vv) 4) -∗ Q ⟨k0_pay27 kk vv (k0_pay18 q) (k0_pay19 qr) (k0_pay20 kr), w⟩)
          -∗ wp frame (wpE (defs₀ (F := F)) 𝒱₀ (c : Thread nD τ) none) Set.univ
            (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay20 kr) (k0_pay23 q kk) (k0_pay24 qr) (constant S256x256 .f32 0x00000000#32)) Q) := by
  simp only [k0_part15_eq_skeleton]; unfold k0_part15_skel
  simp only [semSignalWord, semWaitWord, Prog.lift, Prog.bind_op, Prog.bind_ret, Prog.pure_eq_ret, wp_deviceId]
  iintro Ho Hk
  iapply (wp_lo c (heads q qr kr kk vv) 2) $$ Ho; iintro %w2 Ho
  iapply (wp_head c q qr kr kk vv 2 (by decide) (by rfl) (by rfl) _ (head2 q qr kr kk vv)) $$ Ho; iintro Ho
  iapply (wp_lo c (heads q qr kr kk vv) 3) $$ Ho; iintro %w3 Ho
  iapply (wp_head c q qr kr kk vv 3 (by decide) (by rfl) (by rfl) _ (head3 q qr kr kk vv)) $$ Ho; iintro Ho
  iapply (wp_lo c (heads q qr kr kk vv) 4) $$ Ho; iintro %w4 Ho
  rw [wp_ret]; imodintro
  iapply Hk
  iexact Ho

theorem part16 (c : Dev nD) (w : Vec F S256x64 .f32) (q : FVec F S512x1024 .f32) (qr : FVec F S512x512 .f32) (kr : FVec F S512x32 .f32) (kk vv : FVec F S512x1024 .f32) {Q : (Σ' (_ : FVec F S256x256 .f32), FVec F S256 .f32) → sProp (MT nD τ sig Unit (Elt F) ℕ UU ℕ)} :
    iprop(obuf c (heads q qr kr kk vv) 4)
      ⊢ iprop(((obuf c (heads q qr kr kk vv) 7) -∗ Q ⟨k0_pay31 kk (k0_pay18 q) (k0_pay19 qr) (k0_pay20 kr), k0_pay32 kk (k0_pay18 q) (k0_pay19 qr) (k0_pay20 kr)⟩)
          -∗ wp frame (wpE (defs₀ (F := F)) 𝒱₀ (c : Thread nD τ) none) Set.univ
            (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay20 kr) (k0_pay27 kk vv (k0_pay18 q) (k0_pay19 qr) (k0_pay20 kr)) w) Q) := by
  simp only [k0_part16_eq_skeleton]; unfold k0_part16_skel
  simp only [semSignalWord, semWaitWord, Prog.lift, Prog.bind_op, Prog.bind_ret, Prog.pure_eq_ret, wp_deviceId]
  iintro Ho Hk
  iapply (wp_head c q qr kr kk vv 4 (by decide) (by rfl) (by rfl) _ (head4 q qr kr kk vv)) $$ Ho; iintro Ho
  iapply (wp_lo c (heads q qr kr kk vv) 5) $$ Ho; iintro %w5 Ho
  iapply (wp_head c q qr kr kk vv 5 (by decide) (by rfl) (by rfl) _ (head5 q qr kr kk vv)) $$ Ho; iintro Ho
  iapply (wp_lo c (heads q qr kr kk vv) 6) $$ Ho; iintro %w6 Ho
  iapply (wp_head c q qr kr kk vv 6 (by decide) (by rfl) (by rfl) _ (head6 q qr kr kk vv)) $$ Ho; iintro Ho
  rw [wp_ret]; imodintro
  iapply Hk
  iexact Ho

theorem part17 (c : Dev nD) (q : FVec F S512x1024 .f32) (qr : FVec F S512x512 .f32) (kr : FVec F S512x32 .f32) (kk vv : FVec F S512x1024 .f32) {Q : (Σ' (_ : FVec F S256x64 .f32), FVec F S256x64 .f32) → sProp (MT nD τ sig Unit (Elt F) ℕ UU ℕ)} :
    iprop(obuf c (heads q qr kr kk vv) 7)
      ⊢ iprop(((obuf c (heads q qr kr kk vv) 10) -∗ Q ⟨k0_pay36 (k0_pay18 q), k0_pay37 kk⟩)
          -∗ wp frame (wpE (defs₀ (F := F)) 𝒱₀ (c : Thread nD τ) none) Set.univ
            (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay20 kr) (k0_pay31 kk (k0_pay18 q) (k0_pay19 qr) (k0_pay20 kr)) (k0_pay32 kk (k0_pay18 q) (k0_pay19 qr) (k0_pay20 kr))) Q) := by
  simp only [k0_part17_eq_skeleton]; unfold k0_part17_skel
  simp only [semSignalWord, semWaitWord, Prog.lift, Prog.bind_op, Prog.bind_ret, Prog.pure_eq_ret, wp_deviceId]
  iintro Ho Hk
  iapply (wp_lo c (heads q qr kr kk vv) 7) $$ Ho; iintro %w7 Ho
  iapply (wp_head c q qr kr kk vv 7 (by decide) (by rfl) (by rfl) _ (head7 q qr kr kk vv)) $$ Ho; iintro Ho
  iapply (wp_lo c (heads q qr kr kk vv) 8) $$ Ho; iintro %w8 Ho
  iapply (wp_head c q qr kr kk vv 8 (by decide) (by rfl) (by rfl) _ (head8 q qr kr kk vv)) $$ Ho; iintro Ho
  iapply (wp_lo c (heads q qr kr kk vv) 9) $$ Ho; iintro %w9 Ho
  iapply (wp_head c q qr kr kk vv 9 (by decide) (by rfl) (by rfl) _ (head9 q qr kr kk vv)) $$ Ho; iintro Ho
  rw [wp_ret]; imodintro
  iapply Hk
  iexact Ho

theorem part18 (c : Dev nD) (q : FVec F S512x1024 .f32) (qr : FVec F S512x512 .f32) (kr : FVec F S512x32 .f32) (kk vv : FVec F S512x1024 .f32) {Q : (Σ' (_ : FVec F S256x64 .f32), FVec F S256x64 .f32) → sProp (MT nD τ sig Unit (Elt F) ℕ UU ℕ)} :
    iprop(obuf c (heads q qr kr kk vv) 10)
      ⊢ iprop(((obuf c (heads q qr kr kk vv) 12) -∗ Q ⟨k0_pay41 kk vv (k0_pay18 q) (k0_pay19 qr) (k0_pay20 kr), k0_pay42 kk (k0_pay18 q) (k0_pay19 qr) (k0_pay20 kr)⟩)
          -∗ wp frame (wpE (defs₀ (F := F)) 𝒱₀ (c : Thread nD τ) none) Set.univ
            (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay20 kr) (k0_pay36 (k0_pay18 q)) (k0_pay37 kk)) Q) := by
  simp only [k0_part18_eq_skeleton]; unfold k0_part18_skel
  simp only [semSignalWord, semWaitWord, Prog.lift, Prog.bind_op, Prog.bind_ret, Prog.pure_eq_ret, wp_deviceId]
  iintro Ho Hk
  iapply (wp_lo c (heads q qr kr kk vv) 10) $$ Ho; iintro %w10 Ho
  iapply (wp_head c q qr kr kk vv 10 (by decide) (by rfl) (by rfl) _ (head10 q qr kr kk vv)) $$ Ho; iintro Ho
  iapply (wp_lo c (heads q qr kr kk vv) 11) $$ Ho; iintro %w11 Ho
  iapply (wp_head c q qr kr kk vv 11 (by decide) (by rfl) (by rfl) _ (head11 q qr kr kk vv)) $$ Ho; iintro Ho
  rw [wp_ret]; imodintro
  iapply Hk
  iexact Ho

theorem part19 (c : Dev nD) (q : FVec F S512x1024 .f32) (qr : FVec F S512x512 .f32) (kr : FVec F S512x32 .f32) (kk vv : FVec F S512x1024 .f32) {Q : (Σ' (_ : FVec F S256x256 .f32), FVec F S256x256 .f32) → sProp (MT nD τ sig Unit (Elt F) ℕ UU ℕ)} :
    iprop(obuf c (heads q qr kr kk vv) 12)
      ⊢ iprop(((obuf c (heads q qr kr kk vv) 15) -∗ Q ⟨k0_pay46 kk (k0_pay18 q), k0_pay47 (k0_pay19 qr) (k0_pay20 kr)⟩)
          -∗ wp frame (wpE (defs₀ (F := F)) 𝒱₀ (c : Thread nD τ) none) Set.univ
            (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay20 kr) (k0_pay41 kk vv (k0_pay18 q) (k0_pay19 qr) (k0_pay20 kr)) (k0_pay42 kk (k0_pay18 q) (k0_pay19 qr) (k0_pay20 kr))) Q) := by
  simp only [k0_part19_eq_skeleton]; unfold k0_part19_skel
  simp only [semSignalWord, semWaitWord, Prog.lift, Prog.bind_op, Prog.bind_ret, Prog.pure_eq_ret, wp_deviceId]
  iintro Ho Hk
  iapply (wp_lo c (heads q qr kr kk vv) 12) $$ Ho; iintro %w12 Ho
  iapply (wp_head c q qr kr kk vv 12 (by decide) (by rfl) (by rfl) _ (head12 q qr kr kk vv)) $$ Ho; iintro Ho
  iapply (wp_lo c (heads q qr kr kk vv) 13) $$ Ho; iintro %w13 Ho
  iapply (wp_head c q qr kr kk vv 13 (by decide) (by rfl) (by rfl) _ (head13 q qr kr kk vv)) $$ Ho; iintro Ho
  iapply (wp_lo c (heads q qr kr kk vv) 14) $$ Ho; iintro %w14 Ho
  iapply (wp_head c q qr kr kk vv 14 (by decide) (by rfl) (by rfl) _ (head14 q qr kr kk vv)) $$ Ho; iintro Ho
  rw [wp_ret]; imodintro
  iapply Hk
  iexact Ho

theorem part20 (c : Dev nD) (q : FVec F S512x1024 .f32) (qr : FVec F S512x512 .f32) (kr : FVec F S512x32 .f32) (kk vv : FVec F S512x1024 .f32) {Q : (Σ' (v582 : FVec F S256x32 .f32) (v611 : FVec F S256x64 .f32), Vec F S256x64 .f32) → sProp (MT nD τ sig Unit (Elt F) ℕ UU ℕ)} :
    iprop(obuf c (heads q qr kr kk vv) 15)
      ⊢ iprop((∀ w, (obuf c (heads q qr kr kk vv) 17) -∗ Q ⟨k0_pay49 kr, k0_pay51 kr kk vv (k0_pay18 q) (k0_pay19 qr), w⟩)
          -∗ wp frame (wpE (defs₀ (F := F)) 𝒱₀ (c : Thread nD τ) none) Set.univ
            (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kr kk vv (k0_pay18 q) (k0_pay19 qr) (k0_pay46 kk (k0_pay18 q)) (k0_pay47 (k0_pay19 qr) (k0_pay20 kr))) Q) := by
  simp only [k0_part20_eq_skeleton]; unfold k0_part20_skel
  simp only [semSignalWord, semWaitWord, Prog.lift, Prog.bind_op, Prog.bind_ret, Prog.pure_eq_ret, wp_deviceId]
  iintro Ho Hk
  iapply (wp_lo c (heads q qr kr kk vv) 15) $$ Ho; iintro %w15 Ho
  iapply (wp_head c q qr kr kk vv 15 (by decide) (by rfl) (by rfl) _ (head15 q qr kr kk vv)) $$ Ho; iintro Ho
  iapply (wp_lo c (heads q qr kr kk vv) 16) $$ Ho; iintro %w16 Ho
  iapply (wp_head c q qr kr kk vv 16 (by decide) (by rfl) (by rfl) _ (head16 q qr kr kk vv)) $$ Ho; iintro Ho
  iapply (wp_lo c (heads q qr kr kk vv) 17) $$ Ho; iintro %w17 Ho
  rw [wp_ret]; imodintro
  iapply Hk
  iexact Ho

theorem part21 (c : Dev nD) (w : Vec F S256x64 .f32) (q : FVec F S512x1024 .f32) (qr : FVec F S512x512 .f32) (kr : FVec F S512x32 .f32) (kk vv : FVec F S512x1024 .f32) {Q : (Σ' (_ : FVec F S256x256 .f32), FVec F S256 .f32) → sProp (MT nD τ sig Unit (Elt F) ℕ UU ℕ)} :
    iprop(obuf c (heads q qr kr kk vv) 17)
      ⊢ iprop(((obuf c (heads q qr kr kk vv) 20) -∗ Q ⟨k0_pay55 kk (k0_pay18 q) (k0_pay19 qr) (k0_pay49 kr), k0_pay56 kk (k0_pay18 q) (k0_pay19 qr) (k0_pay49 kr)⟩)
          -∗ wp frame (wpE (defs₀ (F := F)) 𝒱₀ (c : Thread nD τ) none) Set.univ
            (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay49 kr) (k0_pay51 kr kk vv (k0_pay18 q) (k0_pay19 qr)) w) Q) := by
  simp only [k0_part21_eq_skeleton]; unfold k0_part21_skel
  simp only [semSignalWord, semWaitWord, Prog.lift, Prog.bind_op, Prog.bind_ret, Prog.pure_eq_ret, wp_deviceId]
  iintro Ho Hk
  iapply (wp_head c q qr kr kk vv 17 (by decide) (by rfl) (by rfl) _ (head17 q qr kr kk vv)) $$ Ho; iintro Ho
  iapply (wp_lo c (heads q qr kr kk vv) 18) $$ Ho; iintro %w18 Ho
  iapply (wp_head c q qr kr kk vv 18 (by decide) (by rfl) (by rfl) _ (head18 q qr kr kk vv)) $$ Ho; iintro Ho
  iapply (wp_lo c (heads q qr kr kk vv) 19) $$ Ho; iintro %w19 Ho
  iapply (wp_head c q qr kr kk vv 19 (by decide) (by rfl) (by rfl) _ (head19 q qr kr kk vv)) $$ Ho; iintro Ho
  rw [wp_ret]; imodintro
  iapply Hk
  iexact Ho

theorem part22 (c : Dev nD) (q : FVec F S512x1024 .f32) (qr : FVec F S512x512 .f32) (kr : FVec F S512x32 .f32) (kk vv : FVec F S512x1024 .f32) {Q : (Σ' (_ : FVec F S256x64 .f32), FVec F S256x64 .f32) → sProp (MT nD τ sig Unit (Elt F) ℕ UU ℕ)} :
    iprop(obuf c (heads q qr kr kk vv) 20)
      ⊢ iprop(((obuf c (heads q qr kr kk vv) 23) -∗ Q ⟨k0_pay60 (k0_pay18 q), k0_pay61 kk⟩)
          -∗ wp frame (wpE (defs₀ (F := F)) 𝒱₀ (c : Thread nD τ) none) Set.univ
            (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay49 kr) (k0_pay55 kk (k0_pay18 q) (k0_pay19 qr) (k0_pay49 kr)) (k0_pay56 kk (k0_pay18 q) (k0_pay19 qr) (k0_pay49 kr))) Q) := by
  simp only [k0_part22_eq_skeleton]; unfold k0_part22_skel
  simp only [semSignalWord, semWaitWord, Prog.lift, Prog.bind_op, Prog.bind_ret, Prog.pure_eq_ret, wp_deviceId]
  iintro Ho Hk
  iapply (wp_lo c (heads q qr kr kk vv) 20) $$ Ho; iintro %w20 Ho
  iapply (wp_head c q qr kr kk vv 20 (by decide) (by rfl) (by rfl) _ (head20 q qr kr kk vv)) $$ Ho; iintro Ho
  iapply (wp_lo c (heads q qr kr kk vv) 21) $$ Ho; iintro %w21 Ho
  iapply (wp_head c q qr kr kk vv 21 (by decide) (by rfl) (by rfl) _ (head21 q qr kr kk vv)) $$ Ho; iintro Ho
  iapply (wp_lo c (heads q qr kr kk vv) 22) $$ Ho; iintro %w22 Ho
  iapply (wp_head c q qr kr kk vv 22 (by decide) (by rfl) (by rfl) _ (head22 q qr kr kk vv)) $$ Ho; iintro Ho
  rw [wp_ret]; imodintro
  iapply Hk
  iexact Ho

theorem part23 (c : Dev nD) (q : FVec F S512x1024 .f32) (qr : FVec F S512x512 .f32) (kr : FVec F S512x32 .f32) (kk vv : FVec F S512x1024 .f32) {Q : (Σ' (_ : FVec F S256x64 .f32), FVec F S256x64 .f32) → sProp (MT nD τ sig Unit (Elt F) ℕ UU ℕ)} :
    iprop(obuf c (heads q qr kr kk vv) 23)
      ⊢ iprop(((obuf c (heads q qr kr kk vv) 25) -∗ Q ⟨k0_pay65 kk vv (k0_pay18 q) (k0_pay19 qr) (k0_pay49 kr), k0_pay66 kk (k0_pay18 q) (k0_pay19 qr) (k0_pay49 kr)⟩)
          -∗ wp frame (wpE (defs₀ (F := F)) 𝒱₀ (c : Thread nD τ) none) Set.univ
            (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay49 kr) (k0_pay60 (k0_pay18 q)) (k0_pay61 kk)) Q) := by
  simp only [k0_part23_eq_skeleton]; unfold k0_part23_skel
  simp only [semSignalWord, semWaitWord, Prog.lift, Prog.bind_op, Prog.bind_ret, Prog.pure_eq_ret, wp_deviceId]
  iintro Ho Hk
  iapply (wp_lo c (heads q qr kr kk vv) 23) $$ Ho; iintro %w23 Ho
  iapply (wp_head c q qr kr kk vv 23 (by decide) (by rfl) (by rfl) _ (head23 q qr kr kk vv)) $$ Ho; iintro Ho
  iapply (wp_lo c (heads q qr kr kk vv) 24) $$ Ho; iintro %w24 Ho
  iapply (wp_head c q qr kr kk vv 24 (by decide) (by rfl) (by rfl) _ (head24 q qr kr kk vv)) $$ Ho; iintro Ho
  rw [wp_ret]; imodintro
  iapply Hk
  iexact Ho

theorem part24 (c : Dev nD) (q : FVec F S512x1024 .f32) (qr : FVec F S512x512 .f32) (kr : FVec F S512x32 .f32) (kk vv : FVec F S512x1024 .f32) {Q : (Σ' (_ : FVec F S256x256 .f32), FVec F S256x256 .f32) → sProp (MT nD τ sig Unit (Elt F) ℕ UU ℕ)} :
    iprop(obuf c (heads q qr kr kk vv) 25)
      ⊢ iprop(((obuf c (heads q qr kr kk vv) 28) -∗ Q ⟨k0_pay70 kk (k0_pay18 q), k0_pay71 (k0_pay19 qr) (k0_pay49 kr)⟩)
          -∗ wp frame (wpE (defs₀ (F := F)) 𝒱₀ (c : Thread nD τ) none) Set.univ
            (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay49 kr) (k0_pay65 kk vv (k0_pay18 q) (k0_pay19 qr) (k0_pay49 kr)) (k0_pay66 kk (k0_pay18 q) (k0_pay19 qr) (k0_pay49 kr))) Q) := by
  simp only [k0_part24_eq_skeleton]; unfold k0_part24_skel
  simp only [semSignalWord, semWaitWord, Prog.lift, Prog.bind_op, Prog.bind_ret, Prog.pure_eq_ret, wp_deviceId]
  iintro Ho Hk
  iapply (wp_lo c (heads q qr kr kk vv) 25) $$ Ho; iintro %w25 Ho
  iapply (wp_head c q qr kr kk vv 25 (by decide) (by rfl) (by rfl) _ (head25 q qr kr kk vv)) $$ Ho; iintro Ho
  iapply (wp_lo c (heads q qr kr kk vv) 26) $$ Ho; iintro %w26 Ho
  iapply (wp_head c q qr kr kk vv 26 (by decide) (by rfl) (by rfl) _ (head26 q qr kr kk vv)) $$ Ho; iintro Ho
  iapply (wp_lo c (heads q qr kr kk vv) 27) $$ Ho; iintro %w27 Ho
  iapply (wp_head c q qr kr kk vv 27 (by decide) (by rfl) (by rfl) _ (head27 q qr kr kk vv)) $$ Ho; iintro Ho
  rw [wp_ret]; imodintro
  iapply Hk
  iexact Ho

theorem part25 (c : Dev nD) (q : FVec F S512x1024 .f32) (qr : FVec F S512x512 .f32) (kr : FVec F S512x32 .f32) (kk vv : FVec F S512x1024 .f32) {Q : FVec F S256x64 .f32 → sProp (MT nD τ sig Unit (Elt F) ℕ UU ℕ)} :
    iprop(obuf c (heads q qr kr kk vv) 28)
      ⊢ iprop(((obuf c (heads q qr kr kk vv) 30) -∗ Q (k0_pay74 kk vv (k0_pay18 q) (k0_pay19 qr) (k0_pay49 kr)))
          -∗ wp frame (wpE (defs₀ (F := F)) 𝒱₀ (c : Thread nD τ) none) Set.univ
            (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 kk vv (k0_pay18 q) (k0_pay19 qr) (k0_pay49 kr) (k0_pay70 kk (k0_pay18 q)) (k0_pay71 (k0_pay19 qr) (k0_pay49 kr))) Q) := by
  simp only [k0_part25_eq_skeleton]; unfold k0_part25_skel
  simp only [semSignalWord, semWaitWord, Prog.lift, Prog.bind_op, Prog.bind_ret, Prog.pure_eq_ret, wp_deviceId]
  iintro Ho Hk
  iapply (wp_lo c (heads q qr kr kk vv) 28) $$ Ho; iintro %w28 Ho
  iapply (wp_head c q qr kr kk vv 28 (by decide) (by rfl) (by rfl) _ (head28 q qr kr kk vv)) $$ Ho; iintro Ho
  iapply (wp_lo c (heads q qr kr kk vv) 29) $$ Ho; iintro %w29 Ho
  iapply (wp_head c q qr kr kk vv 29 (by decide) (by rfl) (by rfl) _ (head29 q qr kr kk vv)) $$ Ho; iintro Ho
  iapply (wp_lo c (heads q qr kr kk vv) 30) $$ Ho; iintro %w30 Ho
  rw [wp_ret]; imodintro
  iapply Hk
  iexact Ho

end Parts

end Cert.KernelProof
-- ==== Proof.Body4.lean ====
/-
# The body, whole

The parts in order, from what a device starts with to its result.
-/
module

public import proofs.«01_k».proof.Proof.Body3

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device computes -/

section Values
variable (c : Dev nD)

abbrev qOf : FVec F S512x1024 .f32 := k0_pay5 (k0_pay1 (in0 m ρ c)) (in4 m ρ c)
abbrev qrOf : FVec F S512x512 .f32 := k0_pay6 (k0_pay1 (in0 m ρ c)) (in5 m ρ c)
abbrev krOf : FVec F S512x32 .f32 := k0_pay7 (k0_pay1 (in0 m ρ c)) (in6 m ρ c)
/-- Its keys and values: its own block's part, then those of the devices one, three and two places back. -/
abbrev kOf : FVec F S512x1024 .f32 :=
  k0_pay16 (k0_pay13 (k0_pay11 (k0_pay8 (X0 m ρ c) (X1 m ρ c)) (k0_pay10 (X0 m ρ (nb (rv 0) c))) (X1 m ρ (nb (rv 0) c)))
    (X0 m ρ (nb (rv 2) c)) (X1 m ρ (nb (rv 2) c))) (k0_pay15 (X0 m ρ (nb (rv 1) c))) (X1 m ρ (nb (rv 1) c))
abbrev vOf : FVec F S512x1024 .f32 :=
  k0_pay17 (k0_pay14 (k0_pay12 (k0_pay9 (X0 m ρ c) (X2 m ρ c)) (X0 m ρ (nb (rv 0) c)) (X2 m ρ (nb (rv 0) c)))
    (X0 m ρ (nb (rv 2) c)) (X2 m ρ (nb (rv 2) c))) (X0 m ρ (nb (rv 1) c)) (X2 m ρ (nb (rv 1) c))
abbrev headsOf : FVec F S512x1024 .f32 := heads (qOf m ρ c) (qrOf m ρ c) (krOf m ρ c) (kOf m ρ c) (vOf m ρ c)
/-- Its result. -/
def outAt : FVec F S2x256x1024 .f32 := k0_pay77 (headsOf m ρ c) (in7 m ρ c)

end Values

/-! ## What it starts from and what it ends with -/

/-- One of a thing for every buffer and distance. -/
def all9 (Φ : Fin 3 → Fin 3 → sProp 𝕄) : sProp 𝕄 :=
  iprop(Φ 0 0 ∗ Φ 1 0 ∗ Φ 2 0 ∗ Φ 0 1 ∗ Φ 1 1 ∗ Φ 2 1 ∗ Φ 0 2 ∗ Φ 1 2 ∗ Φ 2 2)

def toks (c : Dev nD) (ti o : Fin 3) : sProp 𝕄 := iprop(dutyTok ER (sendCell c ti o) 0 0 ∗ dutyTok ER (recvCell (nb o c) ti o) 0 0)
abbrev atSend (c : Dev nD) (ti o : Fin 3) : sProp 𝕄 := atPos ER (sendCell c ti o) 0 ∅ 0
abbrev barToks (c : Dev nD) : sProp 𝕄 := iprop(dutyTok ER (barCell (nb 0 c)) 0 (rv 0) ∗ dutyTok ER (barCell (nb 1 c)) 0 (rv 1) ∗ dutyTok ER (barCell (nb 2 c)) 0 (rv 2))

/-- What a device holds of the exchange when it starts. -/
def exPre (c : Dev nD) : sProp 𝕄 :=
  iprop(barToks c ∗ cred (tallyAt (barCell c) () 3) ∗ atPos ER (barCell c) 0 ∅ 0 ∗ all9 (toks c) ∗ all9 (recvRes c) ∗ all9 (atSend c))
/-- Its staged inputs. -/
def stgPts (c : Dev nD) : sProp 𝕄 :=
  iprop(stgs c cc0_stg0_0 (in0 m ρ c) ∗ stgs c cc0_stg1_0 (in1 m ρ c) ∗ stgs c cc0_stg2_0 (in2 m ρ c) ∗ stgs c cc0_stg3_0 (in3 m ρ c)
    ∗ stgs c cc0_stg4_0 (in4 m ρ c) ∗ stgs c cc0_stg5_0 (in5 m ρ c) ∗ stgs c cc0_stg6_0 (in6 m ρ c) ∗ stgs c cc0_stg7_0 (in7 m ρ c))
/-- Its four slots of the three buffers. -/
def slotsAll (c : Dev nD) : sProp 𝕄 := iprop(slots c 0 ∗ slots c ((rv 0).val + 1) ∗ slots c ((rv 1).val + 1) ∗ slots c ((rv 2).val + 1))
/-- What it holds of the exchange when it is done. -/
def exPost (c : Dev nD) : sProp 𝕄 :=
  iprop(semVal (barCell c) 0 ∗ all9 (got m ρ c) ∗ all9 (fun ti o => semVal (sendCell c ti o) 0)
    ∗ slotPts m ρ c c 0 0 fullShare ∗ slotPts m ρ c c 1 0 fullShare ∗ slotPts m ρ c c 2 0 fullShare)

/-- Slot 0 is dealt to its three copies and to the loads, and put together again. -/
theorem slot_deal (c : Dev nD) : ∀ ti : Fin 3, slotPts m ρ c c ti 0 fullShare
    ⊢ iprop(slotPts m ρ c c ti 0 (shareDrop fullShare 3) ∗ slotPts m ρ c c ti 0 (shareTok fullShare 3 0) ∗ slotPts m ρ c c ti 0 (shareTok fullShare 3 1) ∗ slotPts m ρ c c ti 0 (shareTok fullShare 3 2))
  | 0 => by
    refine BIBase.Entails.trans (Transfers.pointsTo_toks_split fullShare 3) ?_
    rw [bigSep_fin3]; exact BI.Entails.refl _
  | 1 => by
    refine BIBase.Entails.trans (Transfers.pointsTo_toks_split fullShare 3) ?_
    rw [bigSep_fin3]; exact BI.Entails.refl _
  | 2 => by
    refine BIBase.Entails.trans (Transfers.pointsTo_toks_split fullShare 3) ?_
    rw [bigSep_fin3]; exact BI.Entails.refl _
theorem slot_join (c : Dev nD) : ∀ ti : Fin 3,
    iprop(slotPts m ρ c c ti 0 (shareDrop fullShare 3) ∗ slotPts m ρ c c ti 0 (shareTok fullShare 3 0) ∗ slotPts m ρ c c ti 0 (shareTok fullShare 3 1) ∗ slotPts m ρ c c ti 0 (shareTok fullShare 3 2))
      ⊢ slotPts m ρ c c ti 0 fullShare
  | 0 => by
    refine BIBase.Entails.trans ?_ (Transfers.pointsTo_toks_join fullShare 3)
    rw [bigSep_fin3]; exact BI.Entails.refl _
  | 1 => by
    refine BIBase.Entails.trans ?_ (Transfers.pointsTo_toks_join fullShare 3)
    rw [bigSep_fin3]; exact BI.Entails.refl _
  | 2 => by
    refine BIBase.Entails.trans ?_ (Transfers.pointsTo_toks_join fullShare 3)
    rw [bigSep_fin3]; exact BI.Entails.refl _

theorem sendTok_of (c : Dev nD) (ti o : Fin 3) : iprop(slotPts m ρ c c ti 0 (shareTok fullShare 3 o) ∗ toks c ti o) ⊢ sendTok m ρ c ti o := by
  unfold toks sendTok; exact BI.Entails.refl _
theorem sendGo_of (c : Dev nD) (ti o : Fin 3) :
    iprop(slotAny (nb o c) ti (o.val + 1) ∗ slotPts m ρ c c ti 0 (shareTok fullShare 3 o) ∗ toks c ti o) ⊢ sendGo m ρ c ti o := by
  unfold sendGo toks sendTok; exact BI.Entails.refl _
theorem sendRes_of (c : Dev nD) (ti o : Fin 3) : iprop(sent c ti o ∗ atSend c ti o) ⊢ (sendRes c ti o : sProp 𝕄) := by
  unfold sendRes; exact BI.Entails.refl _
theorem of_back (c : Dev nD) (ti o : Fin 3) : back m ρ c ti o ⊢ iprop(semVal (sendCell c ti o) 0 ∗ slotPts m ρ c c ti 0 (shareTok fullShare 3 o)) := by
  unfold back sendPay; exact BI.Entails.refl _

section Whole
variable (K : Dev nD × Fin 19 → ℕ)

set_option maxHeartbeats 4000000 in
theorem part26 (c : Dev nD) {Q : FVec F S2x256x1024 .f32 → sProp (MT nD τ sig Unit (Elt F) ℕ UU ℕ)} :
    iprop(records m ρ K ∗ levAts L lv ∗ owesE c (O₀ c) ∗ exPre c ∗ stgPts m ρ c ∗ slotsAll c ∗ ∃ f3, (c : Thread nD τ).loc cc0_scratch3 ↦{fullShare} f3)
      ⊢ iprop(((owesE c 0 ∗ exPost m ρ c ∗ stgPts m ρ c ∗ obuf c (headsOf m ρ c) 32) -∗ Q (outAt m ρ c))
          -∗ wp frame (wpE (defs₀ (F := F)) 𝒱₀ (c : Thread nD τ) none) Set.univ
            (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  simp only [k0_part26_eq_skeleton]; unfold k0_part26_skel
  simp only [Prog.lift, Prog.bind_op, Prog.bind_ret, Prog.pure_eq_ret]
  unfold exPre stgPts slotsAll all9 outAt
  iintro ⟨#HR, #Hlev, HO, ⟨Hbt, Hcb, Hab, ⟨Ht00, Ht10, Ht20, Ht01, Ht11, Ht21, Ht02, Ht12, Ht22⟩, ⟨Hr00, Hr10, Hr20, Hr01, Hr11, Hr21, Hr02, Hr12, Hr22⟩, ⟨Ha00, Ha10, Ha20, Ha01, Ha11, Ha21, Ha02, Ha12, Ha22⟩⟩, ⟨Hi0, Hi1, Hi2, Hi3, Hi4, Hi5, Hi6, Hi7⟩, ⟨Hs0, Hs1, Hs2, Hs3⟩, ⟨%f3, Hob⟩⟩ Hk
  rw [wp_bind]
  iapply (part1 m ρ c) $$ [Hi0 Hi1 Hi2 Hi3 Hs0]
  · isplitl [Hi0]; · iexact Hi0
    isplitl [Hi1]; · iexact Hi1
    isplitl [Hi2]; · iexact Hi2
    isplitl [Hi3]; · iexact Hi3
    iexact Hs0
  iintro %v2 %v29 ⟨Hi0, Hi1, Hi2, Hi3, H0, H1, H2⟩
  try dsimp only
  ihave Hd := (slot_deal m ρ c 0) $$ H0; icases Hd with ⟨H0, Hp00, Hp01, Hp02⟩
  ihave Hd := (slot_deal m ρ c 1) $$ H1; icases Hd with ⟨H1, Hp10, Hp11, Hp12⟩
  ihave Hd := (slot_deal m ρ c 2) $$ H2; icases Hd with ⟨H2, Hp20, Hp21, Hp22⟩
  ihave Hg00 := (sendTok_of m ρ c 0 0) $$ [Hp00 Ht00]
  · isplitl [Hp00] <;> iassumption
  ihave Hss : iprop(slots c ((rv 0).val + 1) ∗ slots c ((rv 1).val + 1) ∗ slots c ((rv 2).val + 1)) $$ [Hs1 Hs2 Hs3]
  · isplitl [Hs1]; · iexact Hs1
    isplitl [Hs2] <;> iassumption
  rw [wp_bind]
  iapply (part2 m ρ K c v2 v29) $$ [HO Hbt Hss Hcb Hab Hg00]
  · isplitr; · iexact HR
    isplitl [HO]; · iexact HO
    isplitl [Hbt]; · iexact Hbt
    isplitl [Hss]; · iexact Hss
    isplitl [Hcb]; · iexact Hcb
    isplitr; · iexact Hlev
    isplitl [Hab]; · iexact Hab
    iexact Hg00
  iintro %v41 ⟨HO, Hzb, Hl10, Hl20, Hb1, Hb2, Hc00⟩
  try dsimp only
  unfold barPay
  icases Hb1 with ⟨Hl01, Hl11, Hl21⟩
  icases Hb2 with ⟨Hl02, Hl12, Hl22⟩
  ihave Hg10 := (sendGo_of m ρ c 1 0) $$ [Hl10 Hp10 Ht10]
  · isplitl [Hl10]; · iexact Hl10
    isplitl [Hp10] <;> iassumption
  ihave Hg20 := (sendGo_of m ρ c 2 0) $$ [Hl20 Hp20 Ht20]
  · isplitl [Hl20]; · iexact Hl20
    isplitl [Hp20] <;> iassumption
  ihave Hg01 := (sendGo_of m ρ c 0 1) $$ [Hl01 Hp01 Ht01]
  · isplitl [Hl01]; · iexact Hl01
    isplitl [Hp01] <;> iassumption
  ihave Hg11 := (sendGo_of m ρ c 1 1) $$ [Hl11 Hp11 Ht11]
  · isplitl [Hl11]; · iexact Hl11
    isplitl [Hp11] <;> iassumption
  ihave Hg21 := (sendGo_of m ρ c 2 1) $$ [Hl21 Hp21 Ht21]
  · isplitl [Hl21]; · iexact Hl21
    isplitl [Hp21] <;> iassumption
  ihave Hg02 := (sendGo_of m ρ c 0 2) $$ [Hl02 Hp02 Ht02]
  · isplitl [Hl02]; · iexact Hl02
    isplitl [Hp02] <;> iassumption
  ihave Hg12 := (sendGo_of m ρ c 1 2) $$ [Hl12 Hp12 Ht12]
  · isplitl [Hl12]; · iexact Hl12
    isplitl [Hp12] <;> iassumption
  ihave Hg22 := (sendGo_of m ρ c 2 2) $$ [Hl22 Hp22 Ht22]
  · isplitl [Hl22]; · iexact Hl22
    isplitl [Hp22] <;> iassumption
  rw [wp_bind]
  iapply (part3 m ρ K c v2 v41) $$ [HO Hg10 Hg20]
  · isplitr; · iexact HR
    isplitl [HO]; · iexact HO
    isplitl [Hg10]; · iexact Hg10
    iexact Hg20
  iintro %v73 ⟨HO, Hc10, Hc20⟩
  try dsimp only
  rw [wp_bind]
  iapply (part4 m ρ K c v2 v73) $$ [HO Hg01 Hg11 Hg21]
  · isplitr; · iexact HR
    isplitl [HO]; · iexact HO
    isplitl [Hg01]; · iexact Hg01
    isplitl [Hg11]; · iexact Hg11
    iexact Hg21
  iintro %v105 ⟨HO, Hc01, Hc11, Hc21⟩
  try dsimp only
  rw [wp_bind]
  iapply (part5 m ρ K c v105) $$ [HO Hg02 Hg12]
  · isplitr; · iexact HR
    isplitl [HO]; · iexact HO
    isplitl [Hg02]; · iexact Hg02
    iexact Hg12
  iintro ⟨HO, Hc02, Hc12⟩
  try dsimp only
  rw [wp_bind]
  iapply (part6 m ρ K c v2 (k0_pay1 (in0 m ρ c)) (shareDrop fullShare 3)) $$ [HO Hg22 Hi4 Hi5 Hi6 H0 H1 H2]
  · isplitr; · iexact HR
    isplitl [HO]; · iexact HO
    isplitl [Hg22]; · iexact Hg22
    isplitl [Hi4]; · iexact Hi4
    isplitl [Hi5]; · iexact Hi5
    isplitl [Hi6]; · iexact Hi6
    isplitl [H0]; · iexact H0
    isplitl [H1]; · iexact H1
    iexact H2
  iintro ⟨HO, Hc22, Hi4, Hi5, Hi6, H0, H1, H2⟩
  try dsimp only
  ihave Hx00 := (sendRes_of c 0 0) $$ [Hc00 Ha00]
  · isplitl [Hc00] <;> iassumption
  ihave Hx10 := (sendRes_of c 1 0) $$ [Hc10 Ha10]
  · isplitl [Hc10] <;> iassumption
  ihave Hx20 := (sendRes_of c 2 0) $$ [Hc20 Ha20]
  · isplitl [Hc20] <;> iassumption
  ihave Hx01 := (sendRes_of c 0 1) $$ [Hc01 Ha01]
  · isplitl [Hc01] <;> iassumption
  ihave Hx11 := (sendRes_of c 1 1) $$ [Hc11 Ha11]
  · isplitl [Hc11] <;> iassumption
  ihave Hx21 := (sendRes_of c 2 1) $$ [Hc21 Ha21]
  · isplitl [Hc21] <;> iassumption
  ihave Hx02 := (sendRes_of c 0 2) $$ [Hc02 Ha02]
  · isplitl [Hc02] <;> iassumption
  ihave Hx12 := (sendRes_of c 1 2) $$ [Hc12 Ha12]
  · isplitl [Hc12] <;> iassumption
  ihave Hx22 := (sendRes_of c 2 2) $$ [Hc22 Ha22]
  · isplitl [Hc22] <;> iassumption
  rw [wp_bind]
  iapply (part7 m ρ K c v2) $$ [HO Hr00 Hr10 Hr20]
  · isplitr; · iexact HR
    isplitl [HO]; · iexact HO
    isplitl [Hr00]; · iexact Hr00
    isplitl [Hr10]; · iexact Hr10
    iexact Hr20
  iintro ⟨HO, Hr00, Hr10, Hr20⟩
  try dsimp only
  rw [wp_bind]
  iapply (part8 m ρ K c v2 _ _ _) $$ [HO Hr00 Hr10 Hr20 Hr02]
  · isplitr; · iexact HR
    isplitl [HO]; · iexact HO
    isplitl [Hr00]; · iexact Hr00
    isplitl [Hr10]; · iexact Hr10
    isplitl [Hr20]; · iexact Hr20
    iexact Hr02
  iintro ⟨HO, Hr00, Hr10, Hr20, Hr02⟩
  try dsimp only
  rw [wp_bind]
  iapply (part9 m ρ K c v2 _ _) $$ [HO Hr02 Hr12 Hr22]
  · isplitr; · iexact HR
    isplitl [HO]; · iexact HO
    isplitl [Hr02]; · iexact Hr02
    isplitl [Hr12]; · iexact Hr12
    iexact Hr22
  iintro ⟨HO, Hr02, Hr12, Hr22⟩
  try dsimp only
  rw [wp_bind]
  iapply (part10 m ρ K c v2) $$ [HO Hr01 Hr11 Hr21]
  · isplitr; · iexact HR
    isplitl [HO]; · iexact HO
    isplitl [Hr01]; · iexact Hr01
    isplitl [Hr11]; · iexact Hr11
    iexact Hr21
  iintro ⟨HO, Hr01, Hr11, Hr21⟩
  try dsimp only
  rw [wp_bind]
  iapply (part11 m ρ K c _ _ _) $$ [HO Hr01 Hr11 Hr21 Hx00 Hx10]
  · isplitr; · iexact HR
    isplitl [HO]; · iexact HO
    isplitl [Hr01]; · iexact Hr01
    isplitl [Hr11]; · iexact Hr11
    isplitl [Hr21]; · iexact Hr21
    isplitl [Hx00]; · iexact Hx00
    iexact Hx10
  iintro ⟨HO, Hr01, Hr11, Hr21, Hx00, Hx10⟩
  try dsimp only
  rw [wp_bind]
  iapply (part12 m ρ K c) $$ [HO Hx20 Hx01 Hx11]
  · isplitr; · iexact HR
    isplitl [HO]; · iexact HO
    isplitl [Hx20]; · iexact Hx20
    isplitl [Hx01]; · iexact Hx01
    iexact Hx11
  iintro ⟨HO, Hx20, Hx01, Hx11⟩
  try dsimp only
  rw [wp_bind]
  iapply (part13 m ρ K c) $$ [HO Hx21 Hx02 Hx12]
  · isplitr; · iexact HR
    isplitl [HO]; · iexact HO
    isplitl [Hx21]; · iexact Hx21
    isplitl [Hx02]; · iexact Hx02
    iexact Hx12
  iintro ⟨HO, Hx21, Hx02, Hx12⟩
  try dsimp only
  ihave Hob := (obuf_start c (headsOf m ρ c) f3) $$ Hob
  rw [wp_bind]
  iapply (part14 m ρ K c (qOf m ρ c) (qrOf m ρ c) (krOf m ρ c) (kOf m ρ c) (vOf m ρ c)) $$ [HO Hx22 Hob]
  · isplitr; · iexact HR
    isplitl [HO]; · iexact HO
    isplitl [Hx22]; · iexact Hx22
    iexact Hob
  iintro ⟨HO, Hx22, Hob⟩
  try dsimp only
  rw [wp_bind]
  iapply (part15 c (qOf m ρ c) (qrOf m ρ c) (krOf m ρ c) (kOf m ρ c) (vOf m ρ c)) $$ Hob; iintro %w15 Hob
  try dsimp only
  rw [wp_bind]
  iapply (part16 c w15 (qOf m ρ c) (qrOf m ρ c) (krOf m ρ c) (kOf m ρ c) (vOf m ρ c)) $$ Hob; iintro Hob
  try dsimp only
  rw [wp_bind]
  iapply (part17 c (qOf m ρ c) (qrOf m ρ c) (krOf m ρ c) (kOf m ρ c) (vOf m ρ c)) $$ Hob; iintro Hob
  try dsimp only
  rw [wp_bind]
  iapply (part18 c (qOf m ρ c) (qrOf m ρ c) (krOf m ρ c) (kOf m ρ c) (vOf m ρ c)) $$ Hob; iintro Hob
  try dsimp only
  rw [wp_bind]
  iapply (part19 c (qOf m ρ c) (qrOf m ρ c) (krOf m ρ c) (kOf m ρ c) (vOf m ρ c)) $$ Hob; iintro Hob
  try dsimp only
  rw [wp_bind]
  iapply (part20 c (qOf m ρ c) (qrOf m ρ c) (krOf m ρ c) (kOf m ρ c) (vOf m ρ c)) $$ Hob; iintro %w20 Hob
  try dsimp only
  rw [wp_bind]
  iapply (part21 c w20 (qOf m ρ c) (qrOf m ρ c) (krOf m ρ c) (kOf m ρ c) (vOf m ρ c)) $$ Hob; iintro Hob
  try dsimp only
  rw [wp_bind]
  iapply (part22 c (qOf m ρ c) (qrOf m ρ c) (krOf m ρ c) (kOf m ρ c) (vOf m ρ c)) $$ Hob; iintro Hob
  try dsimp only
  rw [wp_bind]
  iapply (part23 c (qOf m ρ c) (qrOf m ρ c) (krOf m ρ c) (kOf m ρ c) (vOf m ρ c)) $$ Hob; iintro Hob
  try dsimp only
  rw [wp_bind]
  iapply (part24 c (qOf m ρ c) (qrOf m ρ c) (krOf m ρ c) (kOf m ρ c) (vOf m ρ c)) $$ Hob; iintro Hob
  try dsimp only
  rw [wp_bind]
  iapply (part25 c (qOf m ρ c) (qrOf m ρ c) (krOf m ρ c) (kOf m ρ c) (vOf m ρ c)) $$ Hob; iintro Hob
  try dsimp only
  iapply (wp_head c (qOf m ρ c) (qrOf m ρ c) (krOf m ρ c) (kOf m ρ c) (vOf m ρ c) 30 (by decide) (by rfl) (by rfl) _ (head30 (qOf m ρ c) (qrOf m ρ c) (krOf m ρ c) (kOf m ρ c) (vOf m ρ c))) $$ Hob; iintro Hob
  iapply (wp_lo c (headsOf m ρ c) 31) $$ Hob; iintro %w31 Hob
  iapply (wp_head c (qOf m ρ c) (qrOf m ρ c) (krOf m ρ c) (kOf m ρ c) (vOf m ρ c) 31 (by decide) (by rfl) (by rfl) _ (head31 (qOf m ρ c) (qrOf m ρ c) (krOf m ρ c) (kOf m ρ c) (vOf m ρ c))) $$ Hob; iintro Hob
  iapply (wp_lT c (headsOf m ρ c) _) $$ Hob; iintro Hob
  iapply (wp_ldx c (M := Memref.whole cc0_stg7_0) (X := in7 m ρ c) (Finset.subset_univ _) (Memref.readAt_unit_zero (Elt F) cc0_stg7_0 hz2 _ _)) $$ Hi7; iintro Hi7
  rw [wp_ret]; imodintro
  ihave Hy := (of_back m ρ c 0 0) $$ Hx00; icases Hy with ⟨Hz00, Hp00⟩
  ihave Hy := (of_back m ρ c 1 0) $$ Hx10; icases Hy with ⟨Hz10, Hp10⟩
  ihave Hy := (of_back m ρ c 2 0) $$ Hx20; icases Hy with ⟨Hz20, Hp20⟩
  ihave Hy := (of_back m ρ c 0 1) $$ Hx01; icases Hy with ⟨Hz01, Hp01⟩
  ihave Hy := (of_back m ρ c 1 1) $$ Hx11; icases Hy with ⟨Hz11, Hp11⟩
  ihave Hy := (of_back m ρ c 2 1) $$ Hx21; icases Hy with ⟨Hz21, Hp21⟩
  ihave Hy := (of_back m ρ c 0 2) $$ Hx02; icases Hy with ⟨Hz02, Hp02⟩
  ihave Hy := (of_back m ρ c 1 2) $$ Hx12; icases Hy with ⟨Hz12, Hp12⟩
  ihave Hy := (of_back m ρ c 2 2) $$ Hx22; icases Hy with ⟨Hz22, Hp22⟩
  ihave H0 := (slot_join m ρ c 0) $$ [H0 Hp00 Hp01 Hp02]
  · isplitl [H0]; · iexact H0
    isplitl [Hp00]; · iexact Hp00
    isplitl [Hp01] <;> iassumption
  ihave H1 := (slot_join m ρ c 1) $$ [H1 Hp10 Hp11 Hp12]
  · isplitl [H1]; · iexact H1
    isplitl [Hp10]; · iexact Hp10
    isplitl [Hp11] <;> iassumption
  ihave H2 := (slot_join m ρ c 2) $$ [H2 Hp20 Hp21 Hp22]
  · isplitl [H2]; · iexact H2
    isplitl [Hp20]; · iexact Hp20
    isplitl [Hp21] <;> iassumption
  iapply Hk
  isplitl [HO]; · iexact HO
  isplitl [Hzb Hr00 Hr10 Hr20 Hr01 Hr11 Hr21 Hr02 Hr12 Hr22 Hz00 Hz10 Hz20 Hz01 Hz11 Hz21 Hz02 Hz12 Hz22 H0 H1 H2]
  · unfold exPost all9
    isplitl [Hzb]; · iexact Hzb
    isplitl [Hr00 Hr10 Hr20 Hr01 Hr11 Hr21 Hr02 Hr12 Hr22]
    · isplitl [Hr00]; · iexact Hr00
      isplitl [Hr10]; · iexact Hr10
      isplitl [Hr20]; · iexact Hr20
      isplitl [Hr01]; · iexact Hr01
      isplitl [Hr11]; · iexact Hr11
      isplitl [Hr21]; · iexact Hr21
      isplitl [Hr02]; · iexact Hr02
      isplitl [Hr12]; · iexact Hr12
      iexact Hr22
    isplitl [Hz00 Hz10 Hz20 Hz01 Hz11 Hz21 Hz02 Hz12 Hz22]
    · isplitl [Hz00]; · iexact Hz00
      isplitl [Hz10]; · iexact Hz10
      isplitl [Hz20]; · iexact Hz20
      isplitl [Hz01]; · iexact Hz01
      isplitl [Hz11]; · iexact Hz11
      isplitl [Hz21]; · iexact Hz21
      isplitl [Hz02]; · iexact Hz02
      isplitl [Hz12]; · iexact Hz12
      iexact Hz22
    isplitl [H0]; · iexact H0
    isplitl [H1]; · iexact H1
    iexact H2
  isplitl [Hi0 Hi1 Hi2 Hi3 Hi4 Hi5 Hi6 Hi7]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    iexact Hi7
  iexact Hob

end Whole

end Cert.KernelProof
-- ==== Proof.Obligation.lean ====
/-
# The body as the pipeline runs it

The buffers cut in slots and put together again; what the pipeline stages around the body; the obligation.
-/
module

public import proofs.«01_k».proof.Proof.Body4
public import proofs.«01_k».proof.Proof.Gen.Kernel.Points

public import Idealize.ShloMosaic.Lib.Ring

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots and buffers -/

section Cut
variable {A B : ℕ}

theorem slotSet_disj (b b' : Fin 4) (h : b ≠ b') : Disjoint (slotSet A B b.val) (slotSet A B b'.val) := by
  rw [Finset.disjoint_left]
  intro i h1 h2
  exact h (Fin.ext ((mem_slotSet.mp h1).symm.trans (mem_slotSet.mp h2)))
theorem slotSet_cover : (Finset.univ : Finset (Fin 4)).biUnion (fun b => slotSet A B b.val) = Finset.univ := by
  ext i
  rw [Finset.mem_biUnion]
  exact ⟨fun _ => Finset.mem_univ _, fun _ => ⟨i (0 : Fin 3), Finset.mem_univ _, mem_slotSet.mpr rfl⟩⟩

end Cut

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

theorem cut0 (c : Dev nD) : iprop(∃ f : Buf (Elt F) ((c : Thread nD τ).loc cc0_scratch0), (c : Thread nD τ).loc cc0_scratch0 ↦{fullShare} f)
    ⊢ (iprop(slotAny c 0 0 ∗ slotAny c 0 1 ∗ slotAny c 0 2 ∗ slotAny c 0 3) : sProp 𝕄) := by
  unfold slotAny
  iintro ⟨%f, H⟩
  ihave H := (Entails.of_eq ((Ring.pointsTo_blocks (fun b : Fin 4 => slotSet 512 64 b.val) slotSet_disj slotSet_cover f).trans (bigSep_four _))) $$ H
  icases H with ⟨H0, H1, H2, H3⟩
  isplitl [H0]; · iexists f; iexact H0
  isplitl [H1]; · iexists f; iexact H1
  isplitl [H2]; · iexists f; iexact H2
  iexists f; iexact H3
theorem join0 (c : Dev nD) : iprop(slotAny c 0 0 ∗ slotAny c 0 1 ∗ slotAny c 0 2 ∗ slotAny c 0 3)
    ⊢ (iprop(∃ f : Buf (Elt F) ((c : Thread nD τ).loc cc0_scratch0), (c : Thread nD τ).loc cc0_scratch0 ↦{fullShare} f) : sProp 𝕄) := by
  unfold slotAny
  iintro ⟨⟨%f, H0⟩, H1⟩
  iapply (Ring.pointsTo_blocks_join_exists (fun b : Fin 4 => slotSet 512 64 b.val) slotSet_disj slotSet_cover f)
  rw [bigSep_four]
  isplitl [H0]; · iexists f; iexact H0
  iexact H1
theorem cut1 (c : Dev nD) : iprop(∃ f : Buf (Elt F) ((c : Thread nD τ).loc cc0_scratch1), (c : Thread nD τ).loc cc0_scratch1 ↦{fullShare} f)
    ⊢ (iprop(slotAny c 1 0 ∗ slotAny c 1 1 ∗ slotAny c 1 2 ∗ slotAny c 1 3) : sProp 𝕄) := by
  unfold slotAny
  iintro ⟨%f, H⟩
  ihave H := (Entails.of_eq ((Ring.pointsTo_blocks (fun b : Fin 4 => slotSet 64 1024 b.val) slotSet_disj slotSet_cover f).trans (bigSep_four _))) $$ H
  icases H with ⟨H0, H1, H2, H3⟩
  isplitl [H0]; · iexists f; iexact H0
  isplitl [H1]; · iexists f; iexact H1
  isplitl [H2]; · iexists f; iexact H2
  iexists f; iexact H3
theorem join1 (c : Dev nD) : iprop(slotAny c 1 0 ∗ slotAny c 1 1 ∗ slotAny c 1 2 ∗ slotAny c 1 3)
    ⊢ (iprop(∃ f : Buf (Elt F) ((c : Thread nD τ).loc cc0_scratch1), (c : Thread nD τ).loc cc0_scratch1 ↦{fullShare} f) : sProp 𝕄) := by
  unfold slotAny
  iintro ⟨⟨%f, H0⟩, H1⟩
  iapply (Ring.pointsTo_blocks_join_exists (fun b : Fin 4 => slotSet 64 1024 b.val) slotSet_disj slotSet_cover f)
  rw [bigSep_four]
  isplitl [H0]; · iexists f; iexact H0
  iexact H1
theorem cut2 (c : Dev nD) : iprop(∃ f : Buf (Elt F) ((c : Thread nD τ).loc cc0_scratch2), (c : Thread nD τ).loc cc0_scratch2 ↦{fullShare} f)
    ⊢ (iprop(slotAny c 2 0 ∗ slotAny c 2 1 ∗ slotAny c 2 2 ∗ slotAny c 2 3) : sProp 𝕄) := by
  unfold slotAny
  iintro ⟨%f, H⟩
  ihave H := (Entails.of_eq ((Ring.pointsTo_blocks (fun b : Fin 4 => slotSet 64 1024 b.val) slotSet_disj slotSet_cover f).trans (bigSep_four _))) $$ H
  icases H with ⟨H0, H1, H2, H3⟩
  isplitl [H0]; · iexists f; iexact H0
  isplitl [H1]; · iexists f; iexact H1
  isplitl [H2]; · iexists f; iexact H2
  iexists f; iexact H3
theorem join2 (c : Dev nD) : iprop(slotAny c 2 0 ∗ slotAny c 2 1 ∗ slotAny c 2 2 ∗ slotAny c 2 3)
    ⊢ (iprop(∃ f : Buf (Elt F) ((c : Thread nD τ).loc cc0_scratch2), (c : Thread nD τ).loc cc0_scratch2 ↦{fullShare} f) : sProp 𝕄) := by
  unfold slotAny
  iintro ⟨⟨%f, H0⟩, H1⟩
  iapply (Ring.pointsTo_blocks_join_exists (fun b : Fin 4 => slotSet 64 1024 b.val) slotSet_disj slotSet_cover f)
  rw [bigSep_four]
  isplitl [H0]; · iexists f; iexact H0
  iexact H1
theorem slotPts_any (c c' : Dev nD) (ti : Fin 3) (s : ℕ) : slotPts m ρ c c' ti s fullShare ⊢ (slotAny c ti s : sProp 𝕄) := by
  unfold slotPts slotAny
  split <;> (iintro H; iexists _; iexact H)

/-- The four buffers, whole. -/
def scr (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))

theorem scr_cut (c : Dev nD) : scr c ⊢ (iprop(slotsAll c ∗ ∃ f3 : Buf (Elt F) ((c : Thread nD τ).loc cc0_scratch3), (c : Thread nD τ).loc cc0_scratch3 ↦{fullShare} f3) : sProp 𝕄) := by
  unfold scr slotsAll slots
  iintro ⟨H0, H1, H2, H3⟩
  ihave H := (cut0 c) $$ H0; icases H with ⟨H00, H01, H02, H03⟩
  ihave H := (cut1 c) $$ H1; icases H with ⟨H10, H11, H12, H13⟩
  ihave H := (cut2 c) $$ H2; icases H with ⟨H20, H21, H22, H23⟩
  isplitr [H3]
  · isplitl [H00 H10 H20]
    · isplitl [H00]; · iexact H00
      isplitl [H10]; · iexact H10
      iexact H20
    isplitl [H03 H13 H23]
    · isplitl [H03]; · iexact H03
      isplitl [H13]; · iexact H13
      iexact H23
    isplitl [H02 H12 H22]
    · isplitl [H02]; · iexact H02
      isplitl [H12]; · iexact H12
      iexact H22
    isplitl [H01]; · iexact H01
    isplitl [H11]; · iexact H11
    iexact H21
  iexact H3

/-- What is left of the semaphores. -/
def zeros (c : Dev nD) : sProp 𝕄 :=
  iprop(semVal (barCell c) 0 ∗ all9 (fun ti o => semVal (sendCell c ti o) 0) ∗ all9 (fun ti o => semVal (recvCell c ti o) 0))

theorem of_got (c : Dev nD) (ti o : Fin 3) : got m ρ c ti o ⊢ iprop(semVal (recvCell c ti o) 0 ∗ slotAny c ti (o.val + 1)) := by
  unfold got recvPay
  iintro ⟨Hz, H⟩
  isplitl [Hz]; · iexact Hz
  iapply (slotPts_any m ρ c _ ti _) $$ H

theorem exit_join (c : Dev nD) (T : Vec F S512x1024 .f32) : iprop(exPost m ρ c ∗ obuf c T 32) ⊢ iprop(zeros c ∗ scr c) := by
  unfold exPost zeros scr all9 obuf
  iintro ⟨⟨Hzb, ⟨Hr00, Hr10, Hr20, Hr01, Hr11, Hr21, Hr02, Hr12, Hr22⟩, Hz, H0, H1, H2⟩, ⟨%f3, -, H3⟩⟩
  ihave Hy := (of_got m ρ c 0 0) $$ Hr00; icases Hy with ⟨Hz00, Hr00⟩
  ihave Hy := (of_got m ρ c 1 0) $$ Hr10; icases Hy with ⟨Hz10, Hr10⟩
  ihave Hy := (of_got m ρ c 2 0) $$ Hr20; icases Hy with ⟨Hz20, Hr20⟩
  ihave Hy := (of_got m ρ c 0 1) $$ Hr01; icases Hy with ⟨Hz01, Hr01⟩
  ihave Hy := (of_got m ρ c 1 1) $$ Hr11; icases Hy with ⟨Hz11, Hr11⟩
  ihave Hy := (of_got m ρ c 2 1) $$ Hr21; icases Hy with ⟨Hz21, Hr21⟩
  ihave Hy := (of_got m ρ c 0 2) $$ Hr02; icases Hy with ⟨Hz02, Hr02⟩
  ihave Hy := (of_got m ρ c 1 2) $$ Hr12; icases Hy with ⟨Hz12, Hr12⟩
  ihave Hy := (of_got m ρ c 2 2) $$ Hr22; icases Hy with ⟨Hz22, Hr22⟩
  ihave H0 := (slotPts_any m ρ c c 0 0) $$ H0
  ihave H1 := (slotPts_any m ρ c c 1 0) $$ H1
  ihave H2 := (slotPts_any m ρ c c 2 0) $$ H2
  isplitl [Hzb Hz Hz00 Hz10 Hz20 Hz01 Hz11 Hz21 Hz02 Hz12 Hz22]
  · isplitl [Hzb]; · iexact Hzb
    isplitl [Hz]; · iexact Hz
    isplitl [Hz00]; · iexact Hz00
    isplitl [Hz10]; · iexact Hz10
    isplitl [Hz20]; · iexact Hz20
    isplitl [Hz01]; · iexact Hz01
    isplitl [Hz11]; · iexact Hz11
    isplitl [Hz21]; · iexact Hz21
    isplitl [Hz02]; · iexact Hz02
    isplitl [Hz12]; · iexact Hz12
    iexact Hz22
  isplitl [H0 Hr00 Hr01 Hr02]
  · iapply (join0 c)
    isplitl [H0]; · iexact H0
    isplitl [Hr00]; · iexact Hr00
    isplitl [Hr01]; · iexact Hr01
    iexact Hr02
  isplitl [H1 Hr10 Hr11 Hr12]
  · iapply (join1 c)
    isplitl [H1]; · iexact H1
    isplitl [Hr10]; · iexact Hr10
    isplitl [Hr11]; · iexact Hr11
    iexact Hr12
  isplitl [H2 Hr20 Hr21 Hr22]
  · iapply (join2 c)
    isplitl [H2]; · iexact H2
    isplitl [Hr20]; · iexact Hr20
    isplitl [Hr21]; · iexact Hr21
    iexact Hr22
  iexists f3; iexact H3

/-! ## The body -/

section Whole
variable (K : Dev nD × Fin 19 → ℕ)

theorem write_out (f : (cc0_stg8_0 : Ref sig .tc).ty.Contents (Elt F)) (w : Vec F S2x256x1024 .f32) (h) :
    ((Memref.whole cc0_stg8_0 : Memref sig .tc .vmem S2x256x1024 .f32).access (Rect.unit (s := S2x256x1024) ![0, 0, 0] S2x256x1024.size h)).write (Elt F) f w Finset.univ = w :=
  Memref.write_access_unit_zero_univ (Elt F) cc0_stg8_0 hz3 _ f w

/-- The result's buffer: a load of it, and the store of the result. -/
theorem wp_out {α : Type} (c : Dev nD) (f : Buf (Elt F) ((c : Thread nD τ).loc cc0_stg8_0)) (w : Vec F S2x256x1024 .f32) (h) {hl hx hm}
    {k : PUnit → Prog (TpuEff nD τ sig (Elt F) Λ₀ .tc) α} {Q : α → sProp (MT nD τ sig Unit (Elt F) ℕ UU ℕ)} :
    ((c : Thread nD τ).loc cc0_stg8_0 ↦{fullShare} f : sProp 𝕄)
      ⊢ iprop((stgs c cc0_stg8_0 w -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_stg8_0) (Rect.unit (s := S2x256x1024) ![0, 0, 0] S2x256x1024.size h).toLoadRect hl) fun _ =>
              .op (.store (Memref.whole cc0_stg8_0) (Rect.unit (s := S2x256x1024) ![0, 0, 0] S2x256x1024.size h) w Finset.univ hx hm) k) Q) := by
  iintro H Hk
  iapply (wp_ldx c (M := Memref.whole cc0_stg8_0) (Finset.subset_univ _) rfl) $$ H
  iintro H
  iapply (wp_stx c (M := Memref.whole cc0_stg8_0) (r := Rect.unit (s := S2x256x1024) ![0, 0, 0] S2x256x1024.size h) (w := w) (f := f) (g := w) (S := Finset.univ) (Finset.subset_univ _) (fun i _ => congrFun (write_out f w _) i)) $$ H
  iintro H
  iapply Hk
  iexact H

theorem body_whole (c : Dev nD) {Q : PUnit → sProp (MT nD τ sig Unit (Elt F) ℕ UU ℕ)} :
    iprop(records m ρ K ∗ levAts L lv ∗ owesE c (O₀ c) ∗ exPre c ∗ stgPts m ρ c ∗ scr c
        ∗ ∃ f8 : Buf (Elt F) ((c : Thread nD τ).loc cc0_stg8_0), (c : Thread nD τ).loc cc0_stg8_0 ↦{fullShare} f8)
      ⊢ iprop(((owesE c 0 ∗ zeros c ∗ scr c ∗ stgPts m ρ c ∗ stgs c cc0_stg8_0 (outAt m ρ c)) -∗ Q ⟨⟩)
          -∗ wp frame (wpE (defs₀ (F := F)) 𝒱₀ (c : Thread nD τ) none) Set.univ
            (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  simp only [cc0_body_eq_skeleton]; unfold cc0_body_skel
  simp only [Prog.lift, Prog.bind_op, Prog.bind_ret, Prog.pure_eq_ret]
  iintro ⟨#HR, #Hlev, HO, He, Hi, Hs, ⟨%f8, H8⟩⟩ Hk
  ihave Hs := (scr_cut c) $$ Hs
  icases Hs with ⟨Hs, H3⟩
  rw [wp_bind]
  iapply (part26 m ρ K c) $$ [HO He Hi Hs H3]
  · isplitr; · iexact HR
    isplitr; · iexact Hlev
    isplitl [HO]; · iexact HO
    isplitl [He]; · iexact He
    isplitl [Hi]; · iexact Hi
    isplitl [Hs]; · iexact Hs
    iexact H3
  iintro ⟨HO, He, Hi, Hob⟩
  ihave Hj := (exit_join m ρ c (headsOf m ρ c)) $$ [He Hob]
  · isplitl [He] <;> iassumption
  icases Hj with ⟨Hz, Hs⟩
  iapply (wp_out c f8 (outAt m ρ c) _) $$ H8
  iintro H8
  rw [wp_ret]; imodintro
  iapply Hk
  isplitl [HO]; · iexact HO
  isplitl [Hz]; · iexact Hz
  isplitl [Hs]; · iexact Hs
  isplitl [Hi]; · iexact Hi
  iexact H8

end Whole

/-! ## The pipeline's proof data -/

def t₀ : Fin cfg0.N := t0_0
theorem fin_N (t : Fin cfg0.N) : t = t₀ := fin_N0 t

/-- What a device has of the exchange, the records apart, but for the credits. -/
def linear (c : Dev nD) : sProp 𝕄 :=
  iprop((atPos ER (barCell c) 0 ∅ 0 ∗ all9 (fun ti o => atPos ER (sendCell c ti o) 0 ∅ 0) ∗ all9 (fun ti o => atPos ER (recvCell c ti o) 0 ∅ 0))
    ∗ barToks c ∗ all9 (toks c))
/-- The credits. -/
def credits (c : Dev nD) : sProp 𝕄 :=
  iprop(cred (tallyAt (barCell c) () 3) ∗ all9 (fun ti o => cred (tallyAt (recvCell c ti o) () (Ncr ti))))
def ghost (c : Dev nD) : sProp 𝕄 := iprop(∃ K, records m ρ K ∗ linear c)
def start (c : Dev nD) : sProp 𝕄 := iprop(ghost m ρ c ∗ credits c ∗ levAts L lv)
def Φ₀ (c : Dev nD) : sProp 𝕄 := iprop(start m ρ c ∗ scr c)
def Φ₁ (c : Dev nD) : sProp 𝕄 := iprop(zeros c ∗ scr c)

theorem exPre_of (c : Dev nD) : iprop(linear c ∗ credits c) ⊢ (exPre c : sProp 𝕄) := by
  unfold linear credits exPre all9 recvRes
  iintro ⟨⟨⟨Hab, Has, ⟨Ha00, Ha10, Ha20, Ha01, Ha11, Ha21, Ha02, Ha12, Ha22⟩⟩, Hbt, Ht⟩, Hcb, ⟨Hc00, Hc10, Hc20, Hc01, Hc11, Hc21, Hc02, Hc12, Hc22⟩⟩
  isplitl [Hbt]; · iexact Hbt
  isplitl [Hcb]; · iexact Hcb
  isplitl [Hab]; · iexact Hab
  isplitl [Ht]; · iexact Ht
  isplitr [Has]
  · isplitl [Hc00 Ha00]; · isplitl [Hc00] <;> iassumption
    isplitl [Hc10 Ha10]; · isplitl [Hc10] <;> iassumption
    isplitl [Hc20 Ha20]; · isplitl [Hc20] <;> iassumption
    isplitl [Hc01 Ha01]; · isplitl [Hc01] <;> iassumption
    isplitl [Hc11 Ha11]; · isplitl [Hc11] <;> iassumption
    isplitl [Hc21 Ha21]; · isplitl [Hc21] <;> iassumption
    isplitl [Hc02 Ha02]; · isplitl [Hc02] <;> iassumption
    isplitl [Hc12 Ha12]; · isplitl [Hc12] <;> iassumption
    isplitl [Hc22] <;> iassumption
  iexact Has

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => in5 m ρ c
    | ⟨6, _⟩ => in6 m ρ c
    | ⟨7, _⟩ => in7 m ρ c
    | ⟨8, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What stands before the body and after it. -/
def bodyPre (c : Dev nD) : sProp 𝕄 :=
  iprop(Φ₀ m ρ c ∗ (dats m ρ 0 c).owesAt () t₀.castSucc
    ∗ (∃ d, stg c cc0_stg0_0 ((dats m ρ 0 c).before (0 : Fin 9) t₀ d))
    ∗ (∃ d, stg c cc0_stg1_0 ((dats m ρ 0 c).before (1 : Fin 9) t₀ d))
    ∗ (∃ d, stg c cc0_stg2_0 ((dats m ρ 0 c).before (2 : Fin 9) t₀ d))
    ∗ (∃ d, stg c cc0_stg3_0 ((dats m ρ 0 c).before (3 : Fin 9) t₀ d))
    ∗ (∃ d, stg c cc0_stg4_0 ((dats m ρ 0 c).before (4 : Fin 9) t₀ d))
    ∗ (∃ d, stg c cc0_stg5_0 ((dats m ρ 0 c).before (5 : Fin 9) t₀ d))
    ∗ (∃ d, stg c cc0_stg6_0 ((dats m ρ 0 c).before (6 : Fin 9) t₀ d))
    ∗ (∃ d, stg c cc0_stg7_0 ((dats m ρ 0 c).before (7 : Fin 9) t₀ d))
    ∗ (∃ d, stg c cc0_stg8_0 ((dats m ρ 0 c).before (8 : Fin 9) t₀ d)))
def bodyPost (c : Dev nD) : sProp 𝕄 :=
  iprop(Φ₁ c ∗ (dats m ρ 0 c).owesAt () t₀.succ
    ∗ stg c cc0_stg0_0 (in0 m ρ c)
    ∗ stg c cc0_stg1_0 (in1 m ρ c)
    ∗ stg c cc0_stg2_0 (in2 m ρ c)
    ∗ stg c cc0_stg3_0 (in3 m ρ c)
    ∗ stg c cc0_stg4_0 (in4 m ρ c)
    ∗ stg c cc0_stg5_0 (in5 m ρ c)
    ∗ stg c cc0_stg6_0 (in6 m ρ c)
    ∗ stg c cc0_stg7_0 (in7 m ρ c)
    ∗ stg c cc0_stg8_0 (outAt m ρ c))

theorem sound_body (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => bodyPost m ρ c) := by
  unfold bodyPre Φ₀ start ghost
  iintro ⟨⟨⟨⟨%K, #HR, Hlin⟩, Hcr, #Hlev⟩, Hs⟩, Ho, ⟨%d0, %g0, %hg0, Hi0⟩, ⟨%d1, %g1, %hg1, Hi1⟩, ⟨%d2, %g2, %hg2, Hi2⟩, ⟨%d3, %g3, %hg3, Hi3⟩, ⟨%d4, %g4, %hg4, Hi4⟩, ⟨%d5, %g5, %hg5, Hi5⟩, ⟨%d6, %g6, %hg6, Hi6⟩, ⟨%d7, %g7, %hg7, Hi7⟩, ⟨%d8, %g8, %hg8, Hi8⟩⟩
  have hx0 : g0 = in0 m ρ c := by rw [hg0]; unfold Dat.before; rw [if_pos (fetch0_0 t₀)]; rfl
  subst hx0
  have hx1 : g1 = in1 m ρ c := by rw [hg1]; unfold Dat.before; rw [if_pos (fetch0_1 t₀)]; rfl
  subst hx1
  have hx2 : g2 = in2 m ρ c := by rw [hg2]; unfold Dat.before; rw [if_pos (fetch0_2 t₀)]; rfl
  subst hx2
  have hx3 : g3 = in3 m ρ c := by rw [hg3]; unfold Dat.before; rw [if_pos (fetch0_3 t₀)]; rfl
  subst hx3
  have hx4 : g4 = in4 m ρ c := by rw [hg4]; unfold Dat.before; rw [if_pos (fetch0_4 t₀)]; rfl
  subst hx4
  have hx5 : g5 = in5 m ρ c := by rw [hg5]; unfold Dat.before; rw [if_pos (fetch0_5 t₀)]; rfl
  subst hx5
  have hx6 : g6 = in6 m ρ c := by rw [hg6]; unfold Dat.before; rw [if_pos (fetch0_6 t₀)]; rfl
  subst hx6
  have hx7 : g7 = in7 m ρ c := by rw [hg7]; unfold Dat.before; rw [if_pos (fetch0_7 t₀)]; rfl
  subst hx7
  unfold Dat.owesAt Pipeline.owesWithin
  icases Ho with ⟨%W, %hW, HO⟩
  rw [show (dats m ρ 0 c).owed t₀.castSucc = O₀ c from rfl]
  iapply (body_whole m ρ K c) $$ [Hlin Hcr Hs HO Hi0 Hi1 Hi2 Hi3 Hi4 Hi5 Hi6 Hi7 Hi8]
  · isplitr; · iexact HR
    isplitr; · iexact Hlev
    isplitl [HO]; · unfold owesE; iexists W; iexact HO
    isplitl [Hlin Hcr]
    · iapply (exPre_of c)
      isplitl [Hlin] <;> iassumption
    isplitl [Hi0 Hi1 Hi2 Hi3 Hi4 Hi5 Hi6 Hi7]
    · unfold stgPts
      isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      iexact Hi7
    isplitl [Hs]; · iexact Hs
    iexists g8; iexact Hi8
  unfold owesE stgPts
  iintro ⟨⟨%W', HO⟩, Hz, Hs, ⟨Hi0, Hi1, Hi2, Hi3, Hi4, Hi5, Hi6, Hi7⟩, Hi8⟩
  unfold bodyPost Φ₁ Dat.owesAt Pipeline.owesWithin
  rw [show (dats m ρ 0 c).owed t₀.succ = 0 from rfl]
  isplitl [Hz Hs]
  · isplitl [Hz] <;> iassumption
  isplitl [HO]
  · iexists W'
    isplitr; · ipureintro; exact fun _ _ => Or.inl trivial
    iexact HO
  isplitl [Hi0]
  · iexists _; isplitr; · (ipureintro; rfl)
    iexact Hi0
  isplitl [Hi1]
  · iexists _; isplitr; · (ipureintro; rfl)
    iexact Hi1
  isplitl [Hi2]
  · iexists _; isplitr; · (ipureintro; rfl)
    iexact Hi2
  isplitl [Hi3]
  · iexists _; isplitr; · (ipureintro; rfl)
    iexact Hi3
  isplitl [Hi4]
  · iexists _; isplitr; · (ipureintro; rfl)
    iexact Hi4
  isplitl [Hi5]
  · iexists _; isplitr; · (ipureintro; rfl)
    iexact Hi5
  isplitl [Hi6]
  · iexists _; isplitr; · (ipureintro; rfl)
    iexact Hi6
  isplitl [Hi7]
  · iexists _; isplitr; · (ipureintro; rfl)
    iexact Hi7
  iexists _; isplitr; · (ipureintro; rfl)
  iexact Hi8

theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.KernelProof
-- ==== Proof.Launch.lean ====
/-
# The launch

The exchange set up on all four devices at once: its cells, its tokens dealt to the payers, its credits; the run of the program.
-/
module

public import proofs.«01_k».proof.Proof.Obligation

public import Idealize.ShloMosaic.Lib.Pipeline.CollectiveSegs

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Nine by nine -/

theorem regroup_sep (A B C : sProp 𝕄) : iprop((A ∗ B) ∗ C) = iprop(A ∗ B ∗ C) := equiv_iff.mp ⟨BI.sep_assoc, BI.sep_assoc'⟩

theorem all9_eq (Φ : Fin 3 → Fin 3 → sProp 𝕄) : all9 Φ = bigSep Finset.univ fun p : Fin 3 × Fin 3 => Φ p.1 p.2 :=
  (bigSep_univ_eq_bigSepL [(0, 0), (1, 0), (2, 0), (0, 1), (1, 1), (2, 1), (0, 2), (1, 2), (2, 2)] (by decide) (by decide) fun p : Fin 3 × Fin 3 => Φ p.1 p.2).symm
theorem all9_sep (Φ Ψ : Fin 3 → Fin 3 → sProp 𝕄) : all9 (fun ti o => iprop(Φ ti o ∗ Ψ ti o)) = iprop(all9 Φ ∗ all9 Ψ) := by
  rw [all9_eq, all9_eq, all9_eq, ← bigSep_sep']
theorem all9_dev (Φ : Dev nD → Fin 3 → Fin 3 → sProp 𝕄) :
    (bigSep Finset.univ fun c : Dev nD => all9 (Φ c)) = all9 fun ti o => bigSep Finset.univ fun c : Dev nD => Φ c ti o := by
  unfold all9; simp only [bigSep_sep']

/-- A family over a device's cells: the barrier's, the sends', the receives'. -/
theorem over_cells (Φ : Fin 19 → sProp 𝕄) :
    bigSep Finset.univ Φ = iprop(Φ 0 ∗ all9 (fun ti o => Φ (ixS ti o)) ∗ all9 (fun ti o => Φ (ixR ti o))) := by
  rw [bigSep_univ_eq_bigSepL [0, ixS 0 0, ixS 1 0, ixS 2 0, ixS 0 1, ixS 1 1, ixS 2 1, ixS 0 2, ixS 1 2, ixS 2 2, ixR 0 0, ixR 1 0, ixR 2 0, ixR 0 1, ixR 1 1, ixR 2 1, ixR 0 2, ixR 1 2, ixR 2 2] (by decide) (by decide) Φ]
  unfold all9
  simp only [regroup_sep]
  rfl
/-- The region's own semaphores. -/
theorem own_sems (c : Dev nD) : (Pipeline.ownSems0 (Ix := Unit) (Name := ℕ) (U := UU) (Lvl := ℕ) (Val := Elt F) (τ := τ) osem c : sProp 𝕄)
    = iprop(all9 (fun ti o => semVal (sendCell c ti o) 0) ∗ all9 (fun ti o => semVal (recvCell c ti o) 0)) := by
  rw [Pipeline.ownSems0_eq_of_list c osem [0, 3, 6, 1, 4, 7, 2, 5, 8, 9, 12, 15, 10, 13, 16, 11, 14, 17] (by decide) (by decide)]
  unfold all9
  simp only [regroup_sep]
  rfl
theorem unscoped_sems (c : Dev nD) : (unscopedSems0 c : sProp 𝕄) = semVal (barCell c) 0 := by
  unfold unscopedSems0; rw [bigSep_eq_bigSepL_of_eq [SemLoc.reg barS] (by decide) (by decide)]; rfl

/-! ## The cells and their tokens -/

theorem ownSemFacts : Pipeline.OwnSemFacts cfg0.spec osem := by decide
theorem share_eq (c : Dev nD) (w : Fin cfg0.W) : (dats m ρ 0 c).share w = fullShare := by unfold Dat.share; split <;> rfl

theorem csem_injective : Function.Injective csem := by unfold Function.Injective; decide
theorem kcell_injective : Function.Injective (kcell : Dev nD × Fin 19 → GSem nD τ sig) := fun p p' h =>
  Prod.ext (congrArg (fun g : GSem nD τ sig => g.1.1) h) (csem_injective (congrArg Prod.snd h))

/-- The duty tokens as minted: a device's barrier has three, each of its other cells one. -/
abbrev tokAt (p : Dev nD × (Fin 3 ⊕ Fin 18)) : GSem nD τ sig × ℕ × Fin 3 :=
  (kcell (p.1, p.2.elim (fun _ => 0) Fin.succ), 0, p.2.elim id fun _ => 0)
theorem tokAt_injective : Function.Injective (tokAt : Dev nD × (Fin 3 ⊕ Fin 18) → GSem nD τ sig × ℕ × Fin 3) := fun p p' h => by
  obtain ⟨c, j⟩ := p
  obtain ⟨c', j'⟩ := p'
  have h1 := kcell_injective (congrArg Prod.fst h)
  have h2 : j.elim id (fun _ => 0) = j'.elim id fun _ => (0 : Fin 3) := congrArg (fun x : GSem nD τ sig × ℕ × Fin 3 => x.2.2) h
  obtain ⟨rfl, h3⟩ := Prod.mk.inj h1
  congr 1
  rcases j with j | j <;> rcases j' with j' | j'
  · exact congrArg Sum.inl h2
  · exact absurd h3.symm (Fin.succ_ne_zero j')
  · exact absurd h3 (Fin.succ_ne_zero j)
  · exact congrArg Sum.inr (Fin.succ_injective _ h3)

def exCells : Finset (GSem nD τ sig) := Finset.univ.map ⟨kcell, kcell_injective⟩
def exToks : Finset (GSem nD τ sig × ℕ × Fin 3) := Finset.univ.map ⟨tokAt, tokAt_injective⟩
def u₀ : UU := (initOf (Pipeline.cells cfgs cellOf_inj) (Pipeline.launchToks cfgs cellOf_inj), initOf exCells exToks)

/-- The tokens of a device's own cells. -/
def minted (c : Dev nD) : sProp 𝕄 :=
  iprop((dutyTok ER (barCell c) 0 0 ∗ dutyTok ER (barCell c) 0 1 ∗ dutyTok ER (barCell c) 0 2)
    ∗ all9 (fun ti o => dutyTok ER (sendCell c ti o) 0 0) ∗ all9 (fun ti o => dutyTok ER (recvCell c ti o) 0 0))
theorem minted_eq (c : Dev nD) :
    (bigSep Finset.univ fun j : Fin 3 ⊕ Fin 18 => (dutyTok ER (tokAt (c, j)).1 (tokAt (c, j)).2.1 (tokAt (c, j)).2.2 : sProp 𝕄)) = minted c := by
  rw [bigSep_univ_sum, bigSep_fin3]
  unfold minted
  refine congrArg₂ (fun A B : sProp 𝕄 => iprop(A ∗ B)) rfl ?_
  rw [bigSep_univ_eq_bigSepL [0, 3, 6, 1, 4, 7, 2, 5, 8, 9, 12, 15, 10, 13, 16, 11, 14, 17] (by decide) (by decide) fun j : Fin 18 => (dutyTok ER (tokAt (c, .inr j)).1 (tokAt (c, .inr j)).2.1 (tokAt (c, .inr j)).2.2 : sProp 𝕄)]
  unfold all9
  simp only [regroup_sep]
  rfl

/-- What the start deals a device. -/
def dealt (c : Dev nD) : sProp 𝕄 :=
  iprop((bigSep Finset.univ fun k : Fin 19 => roundState ER (exRd m ρ) (kcell (c, k)) 0)
    ∗ (bigSep Finset.univ fun k : Fin 19 => iprop(atPos ER (kcell (c, k)) 0 ∅ 0 ∗ reached ER (kcell (c, k)) 0)) ∗ minted c)

theorem deal : BI.own (ER (initOf exCells exToks)) ⊢ (|==> bigSep Finset.univ (dealt m ρ) : sProp 𝕄) := by
  have hX (Φ : GSem nD τ sig → sProp 𝕄) : bigSep exCells Φ = bigSep Finset.univ fun c : Dev nD => bigSep Finset.univ fun k : Fin 19 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => minted c := by
    unfold exToks; rw [bigSep_map, bigSep_univ_prod]
    exact bigSep_congr fun c _ => minted_eq c
  iintro H
  imod (Rounds.fund ER (exRd m ρ) exCells exToks) $$ H with ⟨Hs, Hr, Ha, Ht⟩
  imodintro
  ihave Hs := (Entails.of_eq (hX fun g => roundState ER (exRd m ρ) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold dealt; simp only [bigSep_sep']
  isplitl [Hs]; · iexact Hs
  isplitl [Ha Hr]
  · isplitl [Ha] <;> iassumption
  iexact Ht

theorem sems (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [own_sems, unscoped_sems, over_cells]
  iintro ⟨⟨Hs, Hr⟩, Hb⟩
  isplitl [Hb]; · iexact Hb
  isplitl [Hs]; · iexact Hs
  have hr : (all9 (fun ti o => semVal (recvCell c ti o) 0) : sProp 𝕄) = all9 fun ti o => semVal (kcell (c, ixR ti o)) 0 :=
    congrArg all9 (funext fun ti => funext fun o => by rw [kcell_recv])
  ihave Hr := (Entails.of_eq hr) $$ Hr
  iexact Hr

/-- A device's cells become invariants. -/
theorem cells_open (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ minted c) := by
  have hI : iprop((bigSep Finset.univ fun k : Fin 19 => semVal (kcell (c, k)) 0) ∗ bigSep Finset.univ fun k : Fin 19 => roundState ER (exRd m ρ) (kcell (c, k)) 0)
      ⊢ (|={Set.univ}=> bigSep Finset.univ fun k => iprop(∃ κ : ℕ, cellInv ER (exRd m ρ) κ (kcell (c, k))) : sProp 𝕄) := by
    rw [← bigSep_sep']
    exact (bigSep_mono fun k _ => (Rounds.body_intro ER (exRd m ρ) (kcell (c, k))).trans inv_alloc).trans (bigSep_fupd _ _)
  unfold dealt
  iintro ⟨Ho, Hu, Hs, Ha, Ht⟩
  ihave Hv := (sems (F := F) c) $$ [Ho Hu]
  · isplitl [Ho] <;> iassumption
  imod hI $$ [Hv Hs] with Hi
  · isplitl [Hv] <;> iassumption
  imodintro
  isplitl [Hi]; · iexact Hi
  isplitl [Ha] <;> iassumption

/-- The tokens go to those who pay: a barrier's three to the three other devices, a receive's to the sender. -/
theorem toks_dealt : (bigSep Finset.univ fun c : Dev nD => (minted c : sProp 𝕄)) ⊢ bigSep Finset.univ fun c : Dev nD => iprop(barToks c ∗ all9 (toks c)) := by
  have hr : (all9 fun ti o => bigSep Finset.univ fun c : Dev nD => (dutyTok ER (recvCell c ti o) 0 0 : sProp 𝕄))
      = all9 fun ti o => bigSep Finset.univ fun c : Dev nD => dutyTok ER (recvCell (nb o c) ti o) 0 0 :=
    congrArg all9 (funext fun ti => funext fun o => bigSep_univ_equiv (turn o) fun c : Dev nD => (dutyTok ER (recvCell c ti o) 0 0 : sProp 𝕄))
  have ht (c : Dev nD) : (all9 (toks c) : sProp 𝕄) = iprop(all9 (fun ti o => dutyTok ER (sendCell c ti o) 0 0) ∗ all9 (fun ti o => dutyTok ER (recvCell (nb o c) ti o) 0 0)) :=
    all9_sep _ _
  unfold minted barToks
  simp only [ht, bigSep_sep', all9_dev]
  rw [hr, bigSep_univ_equiv (turn 2) fun c : Dev nD => (dutyTok ER (barCell c) 0 0 : sProp 𝕄),
    bigSep_univ_equiv (turn 1) fun c : Dev nD => (dutyTok ER (barCell c) 0 1 : sProp 𝕄),
    bigSep_univ_equiv (turn 0) fun c : Dev nD => (dutyTok ER (barCell c) 0 2 : sProp 𝕄)]
  iintro ⟨⟨H0, H1, H2⟩, Hs, Hr⟩
  isplitl [H0 H1 H2]
  · isplitl [H2]; · iexact H2
    isplitl [H1]; · iexact H1
    iexact H0
  isplitl [Hs] <;> iassumption

theorem keep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_of (K : Dev nD × Fin 19 → ℕ) (c : Dev nD) : iprop(records m ρ K ∗ linear c) ⊢ ghost m ρ c := by
  unfold ghost; iintro H; iexists K; iexact H

theorem handed_out :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (ghost m ρ) := by
  rw [bigSep_sep', bigSep_sep', ← bigSep_univ_prod (fun p : Dev nD × Fin 19 => iprop(∃ κ : ℕ, cellInv ER (exRd m ρ) κ (kcell p))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun p : Dev nD × Fin 19 => (reached ER (kcell p) 0 : sProp 𝕄))]
  iintro ⟨Hi, ⟨Ha, #HR⟩, Ht⟩
  ihave HK := (BI.bigSep_exists_pi Finset.univ (fun (p : Dev nD × Fin 19) (κ : ℕ) => (cellInv ER (exRd m ρ) κ (kcell p) : sProp 𝕄))) $$ Hi
  icases HK with ⟨%K, #HI⟩
  ihave Ht := (toks_dealt (F := F)) $$ Ht
  iapply (keep_beside (R := records m ρ K) fun c _ => ghost_of m ρ K c)
  isplitr
  · unfold records; isplitl; · iexact HI
    iexact HR
  · have hl (c : Dev nD) : (linear c : sProp 𝕄) = iprop((bigSep Finset.univ fun k : Fin 19 => atPos ER (kcell (c, k)) 0 ∅ 0) ∗ barToks c ∗ all9 (toks c)) := by
      unfold linear; rw [over_cells]; rfl
    iapply (Entails.of_eq ((bigSep_congr (s := Finset.univ) fun (c : Dev nD) _ => hl c).trans (bigSep_sep' _ _ _)).symm)
    isplitl [Ha] <;> iassumption

theorem set_up : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghost m ρ) :=
  ((bigSep_mono fun c _ => cells_open m ρ c).trans (bigSep_fupd _ _)).trans (BI.fupd_mono (handed_out m ρ))

/-! ## The credits -/

theorem due_bar (c : Dev nD) : (∑ d, O₀ d (barCell c) ()) = 3 := by
  unfold O₀; simp only [Ot_apply]; revert c; decide +kernel
theorem due_recv (c : Dev nD) (ti o : Fin 3) : (∑ d, O₀ d (recvCell c ti o) ()) = Ncr ti := by
  unfold O₀; simp only [Ot_apply]; revert c ti o; decide +kernel

theorem credit_of (g : GSem nD τ sig) (n : ℕ) (h : (∑ d, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem recv_ne (p p' : Fin 3 × Fin 3) (h : (SemLoc.dma (recvS p.1 p.2) : SemLoc sig) = .dma (recvS p'.1 p'.2)) : p = p' := by
  revert p p'; decide

theorem creds (c : Dev nD) : (Pipeline.launchCred O₀ c : sProp 𝕄) ⊢ credits c := by
  unfold Pipeline.launchCred credits
  rw [bigSep_univ_at _ (SemLoc.reg barS), credit_of _ _ (due_bar c)]
  refine sep_mono_right ?_
  have hs : (Finset.univ.image fun p : Fin 3 × Fin 3 => (SemLoc.dma (recvS p.1 p.2) : SemLoc sig)) ⊆ Finset.univ.erase (SemLoc.reg barS) := fun x hx => by
    obtain ⟨p, -, rfl⟩ := Finset.mem_image.mp hx
    exact Finset.mem_erase.mpr ⟨(fun h => by cases h), Finset.mem_univ _⟩
  refine BIBase.Entails.trans (bigSep_subset hs) ?_
  rw [bigSep_image_of_injOn (fun p _ p' _ h => recv_ne p p' h), all9_eq]
  exact Entails.of_eq (bigSep_congr fun p _ => by rw [credit_of _ _ (due_recv c p.1 p.2)])

/-! ## What the launch asks for -/

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hl, Hc, -, Hg⟩
  ihave Hc := (creds (F := F) c) $$ Hc
  imodintro
  unfold start
  isplitl
  · isplitl [Hg]; · iexact Hg
    isplitl [Hc] <;> iassumption
  · iempintro

theorem scratch_eq (c : Dev nD) : (Pipeline.scopedRest cfg0.spec c : sProp 𝕄) = scr c := scopedRest0_eq c

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, own_sems, unscoped_sems]
  unfold Φ₁ zeros
  iintro ⟨⟨Hb, Hs, Hr⟩, Hx⟩
  isplitl [Hb]; · iexact Hb
  isplitr [Hx]
  · isplitl [Hs] <;> iassumption
  iexact Hx

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An operand's or the result's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its semaphores at zero, every fair run of the program ends, with the arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)
theorem finalA_0 (c : Dev nD) : finalA m ρ c (0 : Fin 9) = (s₀ m ρ).mem (win0_0.arr.view.loc (c : Thread nD τ)) :=
  (dats (F := F) m ρ 0 c).arrAt_in (0 : Fin 9) rfl _
theorem finalA_1 (c : Dev nD) : finalA m ρ c (1 : Fin 9) = (s₀ m ρ).mem (win0_1.arr.view.loc (c : Thread nD τ)) :=
  (dats (F := F) m ρ 0 c).arrAt_in (1 : Fin 9) rfl _
theorem finalA_2 (c : Dev nD) : finalA m ρ c (2 : Fin 9) = (s₀ m ρ).mem (win0_2.arr.view.loc (c : Thread nD τ)) :=
  (dats (F := F) m ρ 0 c).arrAt_in (2 : Fin 9) rfl _
theorem finalA_3 (c : Dev nD) : finalA m ρ c (3 : Fin 9) = (s₀ m ρ).mem (win0_3.arr.view.loc (c : Thread nD τ)) :=
  (dats (F := F) m ρ 0 c).arrAt_in (3 : Fin 9) rfl _
theorem finalA_4 (c : Dev nD) : finalA m ρ c (4 : Fin 9) = (s₀ m ρ).mem (win0_4.arr.view.loc (c : Thread nD τ)) :=
  (dats (F := F) m ρ 0 c).arrAt_in (4 : Fin 9) rfl _
theorem finalA_5 (c : Dev nD) : finalA m ρ c (5 : Fin 9) = (s₀ m ρ).mem (win0_5.arr.view.loc (c : Thread nD τ)) :=
  (dats (F := F) m ρ 0 c).arrAt_in (5 : Fin 9) rfl _
theorem finalA_6 (c : Dev nD) : finalA m ρ c (6 : Fin 9) = (s₀ m ρ).mem (win0_6.arr.view.loc (c : Thread nD τ)) :=
  (dats (F := F) m ρ 0 c).arrAt_in (6 : Fin 9) rfl _
theorem finalA_7 (c : Dev nD) : finalA m ρ c (7 : Fin 9) = (s₀ m ρ).mem (win0_7.arr.view.loc (c : Thread nD τ)) :=
  (dats (F := F) m ρ 0 c).arrAt_in (7 : Fin 9) rfl _

end Cert.KernelProof
-- ==== Proof.Run.lean ====
/-
# The run, in the words of the claims

From any memory: the operands end as they were, the result is the payload, every semaphore is at zero.
-/
module

public import proofs.«01_k».proof.Proof.Launch

@[expose] public section

set_option maxRecDepth 16384

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem in0_eq (c : Dev nD) : in0 m ρ c = m ((c : Thread nD τ).loc main_arg0) :=
  Memref.read_access_unit_zero (Elt F) main_arg0 (funext fun a => by fin_cases a <;> decide) (fun a => by fin_cases a <;> decide) _
theorem in1_eq (c : Dev nD) : in1 m ρ c = m ((c : Thread nD τ).loc main_arg1) :=
  Memref.read_access_unit_zero (Elt F) main_arg1 (funext fun a => by fin_cases a <;> decide) (fun a => by fin_cases a <;> decide) _
theorem in2_eq (c : Dev nD) : in2 m ρ c = m ((c : Thread nD τ).loc main_arg2) :=
  Memref.read_access_unit_zero (Elt F) main_arg2 (funext fun a => by fin_cases a <;> decide) (fun a => by fin_cases a <;> decide) _
theorem in3_eq (c : Dev nD) : in3 m ρ c = m ((c : Thread nD τ).loc main_arg3) :=
  Memref.read_access_unit_zero (Elt F) main_arg3 (funext fun a => by fin_cases a <;> decide) (fun a => by fin_cases a <;> decide) _
theorem in4_eq (c : Dev nD) : in4 m ρ c = m ((c : Thread nD τ).loc main_arg4) :=
  Memref.read_access_unit_zero (Elt F) main_arg4 (funext fun a => by fin_cases a <;> decide) (fun a => by fin_cases a <;> decide) _
theorem in5_eq (c : Dev nD) : in5 m ρ c = m ((c : Thread nD τ).loc main_arg5) :=
  Memref.read_access_unit_zero (Elt F) main_arg5 (funext fun a => by fin_cases a <;> decide) (fun a => by fin_cases a <;> decide) _
theorem in6_eq (c : Dev nD) : in6 m ρ c = m ((c : Thread nD τ).loc main_arg6) :=
  Memref.read_access_unit_zero (Elt F) main_arg6 (funext fun a => by fin_cases a <;> decide) (fun a => by fin_cases a <;> decide) _
theorem in7_eq (c : Dev nD) : in7 m ρ c = m ((c : Thread nD τ).loc main_arg7) :=
  Memref.read_access_unit_zero (Elt F) main_arg7 (funext fun a => by fin_cases a <;> decide) (fun a => by fin_cases a <;> decide) _

theorem finalA_8 (c : Dev nD) : finalA m ρ c (8 : Fin 9) = outAt m ρ c := by
  have h : (win0_8.blk (0 : Fin 1)).view.read (Elt F) (finalA m ρ c (8 : Fin 9)) = outAt m ρ c := by
    unfold finalA
    rw [show cfg0.N = ((0 : Fin 1) : Fin cfg0.N).val + 1 from rfl, (dats m ρ 0 c).arrAt_succ (8 : Fin 9) (0 : Fin 1)]
    rw [show (cfg0.win (8 : Fin 9)).flush (0 : Fin 1) = true from by decide, if_pos rfl]
    exact View.read_write_univ _ _
  exact (Memref.read_access_unit_zero (Elt F) main_v1 (funext fun a => by fin_cases a <;> decide)
    (fun a => by fin_cases a <;> decide) _).symm.trans h

/-- The run: every operand as it was, the result, the semaphores. -/
theorem run_device : θ_run defs (onTc (τ := τ) (main (F := F))) (s₀ m ρ) (fun r => (∀ c : Dev nD,
    r.2.mem ((c : Thread nD τ).loc main_v1) = outAt m ρ c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7))
    ∧ r.2.sem = fun _ => 0) :=
  (θ_run defs _ _).mono (fun r h => ⟨fun c => ⟨(h.1 c (8 : Fin 9)).trans (finalA_8 m ρ c), (h.1 c (0 : Fin 9)).trans (finalA_0 m ρ c), (h.1 c (1 : Fin 9)).trans (finalA_1 m ρ c), (h.1 c (2 : Fin 9)).trans (finalA_2 m ρ c), (h.1 c (3 : Fin 9)).trans (finalA_3 m ρ c), (h.1 c (4 : Fin 9)).trans (finalA_4 m ρ c), (h.1 c (5 : Fin 9)).trans (finalA_5 m ρ c), (h.1 c (6 : Fin 9)).trans (finalA_6 m ρ c), (h.1 c (7 : Fin 9)).trans (finalA_7 m ρ c)⟩, h.2⟩) (run_main m ρ)

end Cert.KernelProof
-- ==== Proof.Same.lean ====
/-
# The kernel of the ideal claims is the kernel of the frame

The two printed programs are the same text over two signatures that are the same term, so a run of the one is a run of
the other, at any float operations.
-/
module

public import proofs.«01_k».proof.Proof.Gen.Kernel
public import proofs.«01_k».proof.Proof.Gen.KernelIdeal

@[expose] public section

set_option maxRecDepth 65536
set_option maxHeartbeats 1000000

noncomputable section

namespace Cert.SameKernel

open Idealize.ShloMosaic Idealize.SL.Sem

variable {F : FTy → Type} [FloatOps F]

theorem body_same : Cert.KernelIdeal.cc0_body (F := F) = Cert.Kernel.cc0_body (F := F) := rfl

theorem row_same (t : Fin Cert.Kernel.grid0.N) (s : (w : Fin 9) → Fin (Cert.Kernel.win0 w).nbuf) :
    (Cert.KernelIdeal.defs₀ (F := F)) .tc 0 (t, s) = (Cert.Kernel.defs₀ (F := F)) .tc 0 (t, s) := rfl

/-- The tables of bodies agree: the one body is the same, and the sparse cores have none. -/
theorem bodies_same : Cert.KernelIdeal.defs₀ (F := F) = Cert.Kernel.defs₀ (F := F) := by
  refine funext fun p => ?_
  match p with
  | .tc => exact funext fun l => funext fun x => match l, x with
    | ⟨0, _⟩, (t, s) => row_same t s
    | ⟨n + 1, h⟩, _ => absurd h (Nat.not_lt.2 (Nat.le_add_left _ _))
  | .scScalar _ => rfl
  | .scVector _ _ => rfl

theorem defs_same : Cert.KernelIdeal.defs (F := F) = Cert.Kernel.defs (F := F) :=
  congrArg (Pipeline.defs (Cert.Kernel.pcfgs (F := F))) bodies_same

theorem main_same (c : Dev Cert.Kernel.nD) : Cert.KernelIdeal.main (F := F) c = Cert.Kernel.main (F := F) c := rfl

end Cert.SameKernel
-- ==== Proof.Frames.lean ====
/-
# The frames

The kernel at bit patterns, the kernel at ideal values and the reference each end with their operands as they were and
every semaphore at zero.
-/
module

public import proofs.«01_k».proof.Defs
public import proofs.«01_k».proof.Proof.Run
public import proofs.«01_k».proof.Proof.Same
public import proofs.«01_k».proof.Proof.Gen.ReferenceIdeal.Run

@[expose] public section

noncomputable section

namespace Cert.Frames

open Idealize.ShloMosaic Idealize.SL.Sem

instance : Cert.Pre_scores_finite_KernelIdeal.Facts := ⟨by decide, by decide, by decide, by decide, by decide, by decide⟩

instance : Cert.Pre_scores_finite_ReferenceIdeal.Facts := ⟨by decide, by decide, by decide, by decide, by decide, by decide⟩

attribute [local instance] Cert.Kernel.Gen.facts Cert.KernelIdeal.Gen.facts Cert.ReferenceIdeal.Gen.facts

/-- The ideal kernel's run is the kernel's, at ideal values. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
        r.2.mem ((c.tc : Thread Cert.KernelIdeal.nD Cert.KernelIdeal.τ).loc Cert.KernelIdeal.main_v1)
          = Cert.KernelProof.outAt (F := Ideal) m g c
        ∧ r.2.mem (((c).tc : Thread Cert.KernelIdeal.nD Cert.KernelIdeal.τ).loc Cert.KernelIdeal.main_arg0) = m (((c).tc : Thread Cert.KernelIdeal.nD Cert.KernelIdeal.τ).loc Cert.KernelIdeal.main_arg0)
        ∧ r.2.mem (((c).tc : Thread Cert.KernelIdeal.nD Cert.KernelIdeal.τ).loc Cert.KernelIdeal.main_arg1) = m (((c).tc : Thread Cert.KernelIdeal.nD Cert.KernelIdeal.τ).loc Cert.KernelIdeal.main_arg1)
        ∧ r.2.mem (((c).tc : Thread Cert.KernelIdeal.nD Cert.KernelIdeal.τ).loc Cert.KernelIdeal.main_arg2) = m (((c).tc : Thread Cert.KernelIdeal.nD Cert.KernelIdeal.τ).loc Cert.KernelIdeal.main_arg2)
        ∧ r.2.mem (((c).tc : Thread Cert.KernelIdeal.nD Cert.KernelIdeal.τ).loc Cert.KernelIdeal.main_arg3) = m (((c).tc : Thread Cert.KernelIdeal.nD Cert.KernelIdeal.τ).loc Cert.KernelIdeal.main_arg3)
        ∧ r.2.mem (((c).tc : Thread Cert.KernelIdeal.nD Cert.KernelIdeal.τ).loc Cert.KernelIdeal.main_arg4) = m (((c).tc : Thread Cert.KernelIdeal.nD Cert.KernelIdeal.τ).loc Cert.KernelIdeal.main_arg4)
        ∧ r.2.mem (((c).tc : Thread Cert.KernelIdeal.nD Cert.KernelIdeal.τ).loc Cert.KernelIdeal.main_arg5) = m (((c).tc : Thread Cert.KernelIdeal.nD Cert.KernelIdeal.τ).loc Cert.KernelIdeal.main_arg5)
        ∧ r.2.mem (((c).tc : Thread Cert.KernelIdeal.nD Cert.KernelIdeal.τ).loc Cert.KernelIdeal.main_arg6) = m (((c).tc : Thread Cert.KernelIdeal.nD Cert.KernelIdeal.τ).loc Cert.KernelIdeal.main_arg6)
        ∧ r.2.mem (((c).tc : Thread Cert.KernelIdeal.nD Cert.KernelIdeal.τ).loc Cert.KernelIdeal.main_arg7) = m (((c).tc : Thread Cert.KernelIdeal.nD Cert.KernelIdeal.τ).loc Cert.KernelIdeal.main_arg7))
        ∧ r.2.sem = fun _ => 0) := by
  rw [SameKernel.defs_same, funext (SameKernel.main_same (F := Ideal))]
  exact Cert.KernelProof.run_device (F := Ideal) m g

theorem frame_kernel : Cert.quiescent_Kernel := fun m g _ =>
  (θ_run _ _ _).mono (fun r h => ⟨fun c => (h.1 c).2, h.2⟩) (Cert.KernelProof.run_device (F := Bits) m g)

theorem frame_ideal : Cert.quiescent_KernelIdeal := fun m g _ =>
  (θ_run _ _ _).mono (fun r h => ⟨fun c => (h.1 c).2, h.2⟩) (run_ideal m g)

theorem frame_ideal_pre : Cert.quiescent_KernelIdeal_pre_scores_finite_KernelIdeal := fun m g _ =>
  (θ_run _ _ _).mono (fun r h => ⟨fun c => (h.1 c).2, h.2⟩) (run_ideal m g)

theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

theorem frame_reference_pre : Cert.quiescent_ReferenceIdeal_pre_scores_finite_ReferenceIdeal := fun m g _ =>
  (θ_run _ _ _).mono (fun r h => ⟨fun c => (h c).2, sem_eq_zero_of_no_sems (by decide) r.2⟩)
    (Cert.ReferenceIdeal.Value.run (F := Ideal) m g)

end Cert.Frames
-- ==== Proof.KernelValue.lean ====
/-
# The kernel's pieces at an index

At ideal values every payload of the kernel is read at an index: the projections are sums of products, a head is a
quotient of two sums over the keys.
-/
module

public import proofs.«01_k».proof.Proof.Run
public import Idealize.ShloMosaic.Lib.Pointwise

@[expose] public section

noncomputable section

namespace Cert.KernelProof

open Cert.Kernel Cert.Kernel.Gen
open Idealize.ShloMosaic

/-- Row `r` of the 512 is row `r % 256` of batch `r / 256`. -/
abbrev batchOf (r : Fin 512) : Fin 2 := ⟨r.val / 256, by omega⟩
abbrev rowOf (r : Fin 512) : Fin 256 := ⟨r.val % 256, by omega⟩

theorem rows_apply (x : FVec Ideal S2x256x1024 .f32) (r : Fin 512) (d : Fin 1024) :
    k0_pay1 x (ix2 r d) = x (ix3 (batchOf r) (rowOf r) d) := by
  pointwise [k0_pay1]

theorem q_apply (x : FVec Ideal S512x1024 .f32) (w : FVec Ideal S1024x1024 .f32) (r : Fin 512) (n : Fin 1024) :
    k0_pay5 x w (ix2 r n) = ∑ d : Fin 1024, x (ix2 r d) * w (ix2 d n) := by
  pointwise [k0_pay5]

theorem qr_apply (x : FVec Ideal S512x1024 .f32) (w : FVec Ideal S1024x512 .f32) (r : Fin 512) (n : Fin 512) :
    k0_pay6 x w (ix2 r n) = ∑ d : Fin 1024, x (ix2 r d) * w (ix2 d n) := by
  pointwise [k0_pay6]

theorem kr_apply (x : FVec Ideal S512x1024 .f32) (w : FVec Ideal S1024x32 .f32) (r : Fin 512) (n : Fin 32) :
    k0_pay7 x w (ix2 r n) = ∑ d : Fin 1024, x (ix2 r d) * w (ix2 d n) := by
  pointwise [k0_pay7]

theorem latent_apply (x : FVec Ideal S2x256x1024 .f32) (w : FVec Ideal S1024x64 .f32) (u : Fin 1) (r : Fin 512) (k : Fin 64) :
    (k0_pay2 (F := Ideal) x w (ix3 u r k) : EReal) = ∑ d : Fin 1024, x (ix3 (batchOf r) (rowOf r) d) * w (ix2 d k) := by
  pointwise [k0_pay2, k0_pay1]

theorem wuk_apply (w : FVec Ideal S64x1024 .f32) (u : Fin 1) (k : Fin 64) (n : Fin 1024) :
    (k0_pay3 (F := Ideal) w (ix3 u k n) : EReal) = w (ix2 k n) * Ideal.ofBits .f32 0x42800000#32 := by
  pointwise [k0_pay3]

theorem wuv_apply (w : FVec Ideal S64x1024 .f32) (u : Fin 1) (k : Fin 64) (n : Fin 1024) :
    (k0_pay4 (F := Ideal) w (ix3 u k n) : EReal) = w (ix2 k n) := by
  pointwise [k0_pay4]

theorem out_apply (o : FVec Ideal S512x1024 .f32) (w : FVec Ideal S1024x1024 .f32) (b : Fin 2) (s : Fin 256) (n : Fin 1024) :
    k0_pay77 o w (ix3 b s n) = ∑ j : Fin 1024, o (ix2 ⟨b.val * 256 + s.val, by omega⟩ j) * w (ix2 j n) := by
  pointwise [k0_pay77]

section Blocks

/-! Keys and values are summed block by block, the device's own block first. -/

variable (a : FVec Ideal S512x1024 .f32) (l : FVec Ideal S1x512x64 .bf16) (k8 : FVec Ideal S1x64x1024 .fp8e4m3)
  (v16 : FVec Ideal S1x64x1024 .bf16) (r : Fin 512) (n : Fin 1024)

theorem key0_apply : k0_pay8 (F := Ideal) l k8 (ix2 r n) = ∑ k : Fin 64, (l (ix3 0 r k) : EReal) * (k8 (ix3 0 k n) : EReal) := by
  pointwise [k0_pay8]

theorem key1_apply : k0_pay11 a (k0_pay10 l) k8 (ix2 r n)
    = a (ix2 r n) + ∑ k : Fin 64, (l (ix3 0 r k) : EReal) * (k8 (ix3 0 k n) : EReal) := by
  pointwise [k0_pay11, k0_pay10]

theorem key2_apply : k0_pay13 a l k8 (ix2 r n)
    = a (ix2 r n) + ∑ k : Fin 64, (l (ix3 0 r k) : EReal) * (k8 (ix3 0 k n) : EReal) := by
  pointwise [k0_pay13]

theorem key3_apply : k0_pay16 a (k0_pay15 l) k8 (ix2 r n)
    = a (ix2 r n) + ∑ k : Fin 64, (l (ix3 0 r k) : EReal) * (k8 (ix3 0 k n) : EReal) := by
  pointwise [k0_pay16, k0_pay15]

theorem val0_apply : k0_pay9 (F := Ideal) l v16 (ix2 r n) = ∑ k : Fin 64, (l (ix3 0 r k) : EReal) * (v16 (ix3 0 k n) : EReal) := by
  pointwise [k0_pay9]

theorem val1_apply : k0_pay12 a l v16 (ix2 r n)
    = a (ix2 r n) + ∑ k : Fin 64, (l (ix3 0 r k) : EReal) * (v16 (ix3 0 k n) : EReal) := by
  pointwise [k0_pay12]

theorem val2_apply : k0_pay14 a l v16 (ix2 r n)
    = a (ix2 r n) + ∑ k : Fin 64, (l (ix3 0 r k) : EReal) * (v16 (ix3 0 k n) : EReal) := by
  pointwise [k0_pay14]

theorem val3_apply : k0_pay17 a l v16 (ix2 r n)
    = a (ix2 r n) + ∑ k : Fin 64, (l (ix3 0 r k) : EReal) * (v16 (ix3 0 k n) : EReal) := by
  pointwise [k0_pay17]

end Blocks

section Heads

variable (q : FVec Ideal S512x1024 .f32) (qr : FVec Ideal S512x512 .f32) (kr : FVec Ideal S512x32 .f32)
  (kk vv : FVec Ideal S512x1024 .f32) (n : Fin 32)

theorem headE_apply (s t : Fin 256) : headE q qr kr kk n (ix2 s t) = Ideal.exp (
    (∑ k : Fin 64, q (ix2 ⟨256 * (n.val / 16) + s.val, by omega⟩ ⟨64 * (n.val % 16) + k.val, by omega⟩) * Ideal.ofBits .f32 0x3AD105EC#32
      * kk (ix2 ⟨256 * (n.val / 16) + t.val, by omega⟩ ⟨64 * (n.val % 16) + k.val, by omega⟩))
    + ∑ k : Fin 32, qr (ix2 ⟨256 * (n.val / 16) + s.val, by omega⟩ ⟨32 * (n.val % 16) + k.val, by omega⟩) * Ideal.ofBits .f32 0x3DD105EC#32
      * kr (ix2 ⟨256 * (n.val / 16) + t.val, by omega⟩ ⟨k.val, by omega⟩)) := by
  pointwise [headE, k0_pay18, k0_pay19]

theorem headAt_apply (s : Fin 256) (e : Fin 64) : headAt q qr kr kk vv n (ix2 s e) = Ideal.div
    (∑ t : Fin 256, headE q qr kr kk n (ix2 s t) * vv (ix2 ⟨256 * (n.val / 16) + t.val, by omega⟩ ⟨64 * (n.val % 16) + e.val, by omega⟩))
    (∑ t : Fin 256, headE q qr kr kk n (ix2 s t)) := by
  pointwise [headAt]

end Heads

end Cert.KernelProof
-- ==== Proof.Attention.lean ====
/-
# The attention, in plain words

What the reference computes, as sums over coordinates of the whole arrays, and the two facts by which the kernel computes
the same: a weighted mean may be divided at the end and needs no shift of its scores, and the kernel's scores are the
reference's where the arrays that they are made of hold real numbers.
-/
module

public import Idealize.ShloMosaic.Lib.Pointwise

@[expose] public section

noncomputable section

namespace Cert.Attention

open Idealize.ShloMosaic

/-! ## A mean weighted by exponentials -/

/-- A sum of real numbers is one. -/
theorem coe_total {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A factor that is a real number and not negative may be taken out of a sum of anything. -/
theorem scale_total {ι : Type} (s : Finset ι) (w : ℝ) (hw : 0 ≤ w) (f : ι → EReal) :
    (w : EReal) * ∑ i ∈ s, f i = ∑ i ∈ s, (w : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hw) (EReal.coe_ne_top w) _ _

section Mean

variable {ι : Type} [Fintype ι] [Nonempty ι]

/-- The word of minus infinity. -/
theorem word_bot : Ideal.ofBits .f32 0xFF800000#32 = ⊥ := by
  simp [Ideal.ofBits, Ideal.ieee]

/-- The mean of `v` by the exponentials of `σ`, as the kernel takes it: one division, at the end. -/
def meanLate (σ v : ι → EReal) : EReal := Ideal.div (∑ t, Ideal.exp (σ t) * v t) (∑ t, Ideal.exp (σ t))

/-- The same mean, as the reference takes it: the scores less their greatest, every weight divided. -/
def meanShifted (σ v : ι → EReal) : EReal :=
  ∑ t, v t * Ideal.div (Ideal.exp (σ t - Finset.fold max (Ideal.ofBits .f32 0xFF800000#32) σ Finset.univ))
    (∑ u, Ideal.exp (σ u - Finset.fold max (Ideal.ofBits .f32 0xFF800000#32) σ Finset.univ))

/-- The greatest of some real numbers is one. -/
theorem greatest_real (σ : ι → ℝ) : ∃ μ : ℝ, Finset.fold max (Ideal.ofBits .f32 0xFF800000#32) (fun t => (σ t : EReal)) Finset.univ = μ := by
  rw [word_bot]
  have hlt : Finset.fold max ⊥ (fun t => (σ t : EReal)) Finset.univ < ⊤ :=
    (Finset.fold_max_lt _).2 ⟨bot_lt_top, fun t _ => EReal.coe_lt_top _⟩
  have hgt : ⊥ < Finset.fold max ⊥ (fun t => (σ t : EReal)) Finset.univ :=
    (Finset.lt_fold_max _).2 (.inr ⟨Classical.arbitrary ι, Finset.mem_univ _, EReal.bot_lt_coe _⟩)
  exact ⟨_, (EReal.coe_toReal hlt.ne hgt.ne').symm⟩

/-- Dividing one real number by a positive one. -/
theorem div_coe (x y : ℝ) (hy : 0 < y) : Ideal.div (x : EReal) (y : EReal) = ((x / y : ℝ) : EReal) := by
  unfold Ideal.div
  rw [if_neg (EReal.coe_ne_zero.2 hy.ne'), ← EReal.coe_inv, ← EReal.coe_mul, div_eq_mul_inv]

theorem exp_coe (x : ℝ) : Ideal.exp (x : EReal) = ((Real.exp x : ℝ) : EReal) := rfl

/-- For real scores the two means agree, whatever the values are. -/
theorem mean_eq (σ : ι → ℝ) (v : ι → EReal) : meanLate (fun t => (σ t : EReal)) v = meanShifted (fun t => (σ t : EReal)) v := by
  obtain ⟨μ, hμ⟩ := greatest_real σ
  have hD : 0 < ∑ t, Real.exp (σ t) := Finset.sum_pos (fun t _ => Real.exp_pos _) Finset.univ_nonempty
  have hs : ∑ t, Real.exp (σ t - μ) = (∑ t, Real.exp (σ t)) * Real.exp (-μ) := by
    rw [Finset.sum_mul]
    exact Finset.sum_congr rfl fun t _ => by rw [← Real.exp_add, sub_eq_add_neg]
  have hw : ∀ t, Real.exp (σ t - μ) / (∑ u, Real.exp (σ u - μ)) = (∑ u, Real.exp (σ u))⁻¹ * Real.exp (σ t) := fun t => by
    rw [hs, sub_eq_add_neg, Real.exp_add, mul_div_mul_right _ _ (Real.exp_pos _).ne', div_eq_mul_inv, mul_comm]
  unfold meanLate meanShifted
  rw [hμ]
  simp only [← EReal.coe_sub, exp_coe, coe_total]
  have hp : 0 < ∑ u, Real.exp (σ u - μ) := Finset.sum_pos (fun t _ => Real.exp_pos _) Finset.univ_nonempty
  simp only [div_coe _ _ hp, hw]
  unfold Ideal.div
  rw [if_neg (EReal.coe_ne_zero.2 hD.ne'), ← EReal.coe_inv, mul_comm, scale_total _ _ (inv_pos.2 hD).le]
  refine Finset.sum_congr rfl fun t _ => ?_
  rw [EReal.coe_mul, mul_comm (v t), mul_assoc]

end Mean

/-! ## The arrays -/

variable (x : (⟨3, ![2, 256, 1024]⟩ : Shape).Idx → EReal) (wdkv : (⟨2, ![1024, 256]⟩ : Shape).Idx → EReal)
  (wuk wuv : (⟨2, ![256, 1024]⟩ : Shape).Idx → EReal) (wq : (⟨2, ![1024, 1024]⟩ : Shape).Idx → EReal)
  (wqr : (⟨2, ![1024, 512]⟩ : Shape).Idx → EReal) (wkr : (⟨2, ![1024, 32]⟩ : Shape).Idx → EReal)
  (wo : (⟨2, ![1024, 1024]⟩ : Shape).Idx → EReal)

/-- The latent of a token. -/
def latent (b : Fin 2) (t : Fin 256) (j : Fin 256) : EReal := ∑ d, x (ix3 b t d) * wdkv (ix2 d j)

/-- A token's keys, or its values: its latent times a matrix. -/
def unfolded (w : (⟨2, ![256, 1024]⟩ : Shape).Idx → EReal) (b : Fin 2) (t : Fin 256) (n : Fin 1024) : EReal :=
  ∑ j, latent x wdkv b t j * w (ix2 j n)

/-- A token's queries, their rotary part and its rotary keys: the token times a matrix. -/
def projected {N : ℕ} (w : (⟨2, ![1024, N]⟩ : Shape).Idx → EReal) (b : Fin 2) (s : Fin 256) (n : Fin N) : EReal :=
  ∑ d, x (ix3 b s d) * w (ix2 d n)

/-- The score of token `t` for token `s` in head `h`. -/
def score (b : Fin 2) (h : Fin 16) (s t : Fin 256) : EReal :=
  ((∑ k : Fin 64, projected x wq b s ⟨h.val * 64 + k.val, by omega⟩ * unfolded x wdkv wuk b t ⟨h.val * 64 + k.val, by omega⟩)
    + ∑ k : Fin 32, projected x wqr b s ⟨h.val * 32 + k.val, by omega⟩ * projected x wkr b t k)
  * Ideal.ofBits .f32 0x3DD105EC#32

/-- The kernel's score: the scale is put into the queries, and of the plain part a 64th of it, as the keys are 64 times
    what they were. -/
def scoreScaled (b : Fin 2) (h : Fin 16) (s t : Fin 256) : EReal :=
  (∑ k : Fin 64, projected x wq b s ⟨h.val * 64 + k.val, by omega⟩ * Ideal.ofBits .f32 0x3AD105EC#32
      * ∑ j, latent x wdkv b t j * (wuk (ix2 j ⟨h.val * 64 + k.val, by omega⟩) * Ideal.ofBits .f32 0x42800000#32))
    + ∑ k : Fin 32, projected x wqr b s ⟨h.val * 32 + k.val, by omega⟩ * Ideal.ofBits .f32 0x3DD105EC#32 * projected x wkr b t k

/-- The head that a column of the gathered heads belongs to. -/
abbrev headOf (j : Fin 1024) : Fin 16 := ⟨j.val / 64, by omega⟩

/-- The result, from the heads' means. -/
def result (b : Fin 2) (s : Fin 256) (n : Fin 1024) : EReal :=
  ∑ j : Fin 1024, meanShifted (score x wdkv wuk wq wqr wkr b (headOf j) s) (fun t => unfolded x wdkv wuv b t j) * wo (ix2 j n)

/-- The kernel's result, from the heads' means taken its way. -/
def resultLate (b : Fin 2) (s : Fin 256) (n : Fin 1024) : EReal :=
  ∑ j : Fin 1024, meanLate (scoreScaled x wdkv wuk wq wqr wkr b (headOf j) s) (fun t => unfolded x wdkv wuv b t j) * wo (ix2 j n)

/-! ## The two scores -/

theorem word_scale : Ideal.ofBits .f32 0x3DD105EC#32 = ((13698540 / 2 ^ 27 : ℝ) : EReal) := by
  simp [Ideal.ofBits, Ideal.ieee, -EReal.coe_mul]; norm_num

theorem word_part : Ideal.ofBits .f32 0x3AD105EC#32 = ((13698540 / 2 ^ 33 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

/-- An array of real numbers. -/
def IsReal {α : Type} (a : α → EReal) : Prop := ∃ r : α → ℝ, a = fun i => (r i : EReal)

/-- Where the arrays hold real numbers, the kernel's scores are the reference's, and are real numbers. -/
theorem score_eq (hx : IsReal x) (hd : IsReal wdkv) (hk : IsReal wuk) (hq : IsReal wq) (hr : IsReal wqr) (hs : IsReal wkr) (b : Fin 2)
    (h : Fin 16) (s : Fin 256) : ∃ σ : Fin 256 → ℝ, scoreScaled x wdkv wuk wq wqr wkr b h s = (fun t => (σ t : EReal))
      ∧ score x wdkv wuk wq wqr wkr b h s = fun t => (σ t : EReal) := by
  obtain ⟨x, rfl⟩ := hx
  obtain ⟨wdkv, rfl⟩ := hd
  obtain ⟨wuk, rfl⟩ := hk
  obtain ⟨wq, rfl⟩ := hq
  obtain ⟨wqr, rfl⟩ := hr
  obtain ⟨wkr, rfl⟩ := hs
  have key : ∀ t, ∃ r : ℝ, scoreScaled (fun i => (x i : EReal)) (fun i => (wdkv i : EReal)) (fun i => (wuk i : EReal))
      (fun i => (wq i : EReal)) (fun i => (wqr i : EReal)) (fun i => (wkr i : EReal)) b h s t = r
      ∧ score (fun i => (x i : EReal)) (fun i => (wdkv i : EReal)) (fun i => (wuk i : EReal))
      (fun i => (wq i : EReal)) (fun i => (wqr i : EReal)) (fun i => (wkr i : EReal)) b h s t = r := fun t => by
    unfold score scoreScaled projected unfolded latent
    rw [word_scale, word_part, word_64]
    simp only [← EReal.coe_mul, coe_total, ← EReal.coe_add]
    refine ⟨_, congrArg _ ?_, rfl⟩
    rw [add_mul, Finset.sum_mul, Finset.sum_mul]
    refine congrArg₂ _ (Finset.sum_congr rfl fun k _ => ?_) (Finset.sum_congr rfl fun k _ => by ring)
    simp only [← mul_assoc]
    rw [← Finset.sum_mul]
    ring
  choose σ h₁ h₂ using key
  exact ⟨σ, funext h₁, funext h₂⟩

/-- The kernel's result is the reference's. -/
theorem result_eq (hx : IsReal x) (hd : IsReal wdkv) (hk : IsReal wuk) (hq : IsReal wq) (hr : IsReal wqr) (hs : IsReal wkr) (b : Fin 2)
    (s : Fin 256) (n : Fin 1024) : resultLate x wdkv wuk wuv wq wqr wkr wo b s n = result x wdkv wuk wuv wq wqr wkr wo b s n := by
  refine Finset.sum_congr rfl fun j _ => ?_
  obtain ⟨σ, h₁, h₂⟩ := score_eq x wdkv wuk wq wqr wkr hx hd hk hq hr hs b (headOf j) s
  rw [h₁, h₂, mean_eq]

end Cert.Attention
-- ==== Proof.KernelResult.lean ====
/-
# The kernel's result

Every device's result at ideal values is one function of the whole arrays: its keys and values are sums over the devices'
blocks, in the device's own order, which is the sum over all latent coordinates.
-/
module

public import proofs.«01_k».proof.Proof.KernelValue
public import proofs.«01_k».proof.Proof.Attention
public import Idealize.ShloMosaic.Lib.Layout
public import Idealize.ShloMosaic.Lib.Pipeline.ValueKit.Acc

@[expose] public section

noncomputable section

namespace Cert.KernelProof

open Cert.Kernel Cert.Kernel.Gen
open Idealize.ShloMosaic

/-- A device and the three it receives from are all the devices. -/
theorem all_four (f : Dev nD → EReal) (c : Dev nD) : f c + f (nb (rv 0) c) + f (nb (rv 2) c) + f (nb (rv 1) c) = ∑ e : Fin 4, f e := by
  rw [Fin.sum_univ_four]
  have h : ∀ c : Dev nD, (c = 0 ∧ nb (rv 0) c = 3 ∧ nb (rv 2) c = 1 ∧ nb (rv 1) c = 2)
      ∨ (c = 1 ∧ nb (rv 0) c = 0 ∧ nb (rv 2) c = 2 ∧ nb (rv 1) c = 3)
      ∨ (c = 2 ∧ nb (rv 0) c = 1 ∧ nb (rv 2) c = 3 ∧ nb (rv 1) c = 0)
      ∨ (c = 3 ∧ nb (rv 0) c = 2 ∧ nb (rv 2) c = 0 ∧ nb (rv 1) c = 1) := by decide
  rcases h c with ⟨h0, h1, h2, h3⟩ | ⟨h0, h1, h2, h3⟩ | ⟨h0, h1, h2, h3⟩ | ⟨h0, h1, h2, h3⟩ <;>
  · rw [h1, h2, h3, h0]
    ac_rfl

/-- Where a column of a device's block of the latent projection lies, -/
theorem cols_apply (w : (⟨2, ![1024, 256]⟩ : Shape).Idx → EReal) (e : Dev nD) (d : Fin 1024) (k : Fin 64) :
    Layout.block ⟨2, ![1024, 64]⟩ ⟨2, ![1024, 256]⟩ 1 4 e w (by decide) (ix2 d k) = w (ix2 d ⟨e.val * 64 + k.val, by have : e.val < 4 := e.isLt; omega⟩) := by
  rw [Layout.block_apply]
  exact congrArg w (funext (Fin.forall_fin_two.2 ⟨rfl, rfl⟩))

/-- and a row of its block of the other two. -/
theorem rowsOf_apply (w : (⟨2, ![256, 1024]⟩ : Shape).Idx → EReal) (e : Dev nD) (k : Fin 64) (n : Fin 1024) :
    Layout.block ⟨2, ![64, 1024]⟩ ⟨2, ![256, 1024]⟩ 0 4 e w (by decide) (ix2 k n) = w (ix2 ⟨e.val * 64 + k.val, by have : e.val < 4 := e.isLt; omega⟩ n) := by
  rw [Layout.block_apply]
  exact congrArg w (funext (Fin.forall_fin_two.2 ⟨rfl, rfl⟩))

variable (m : (ℓ : Loc nD τ sig) → Buf (Elt Ideal) ℓ) (ρ : Dev nD → PrngReg)
variable (x : (⟨3, ![2, 256, 1024]⟩ : Shape).Idx → EReal) (wdkv : (⟨2, ![1024, 256]⟩ : Shape).Idx → EReal)
  (wuk wuv : (⟨2, ![256, 1024]⟩ : Shape).Idx → EReal) (wq : (⟨2, ![1024, 1024]⟩ : Shape).Idx → EReal)
  (wqr : (⟨2, ![1024, 512]⟩ : Shape).Idx → EReal) (wkr : (⟨2, ![1024, 32]⟩ : Shape).Idx → EReal)
  (wo : (⟨2, ![1024, 1024]⟩ : Shape).Idx → EReal)

/-- What the devices hold of the whole arrays: of three a block, of the others a copy. -/
structure Holds : Prop where
  hx : ∀ c, in0 m ρ c = x
  hdkv : ∀ c, in1 m ρ c = Layout.block ⟨2, ![1024, 64]⟩ ⟨2, ![1024, 256]⟩ 1 4 c wdkv (by decide)
  huk : ∀ c, in2 m ρ c = Layout.block ⟨2, ![64, 1024]⟩ ⟨2, ![256, 1024]⟩ 0 4 c wuk (by decide)
  huv : ∀ c, in3 m ρ c = Layout.block ⟨2, ![64, 1024]⟩ ⟨2, ![256, 1024]⟩ 0 4 c wuv (by decide)
  hq : ∀ c, in4 m ρ c = wq
  hqr : ∀ c, in5 m ρ c = wqr
  hkr : ∀ c, in6 m ρ c = wkr
  ho : ∀ c, in7 m ρ c = wo

variable {m ρ x wdkv wuk wuv wq wqr wkr wo}
variable (H : Holds m ρ x wdkv wuk wuv wq wqr wkr wo) (c : Dev nD)
include H

/-- A device's block of the latent. -/
theorem sent_latent (r : Fin 512) (k : Fin 64) : (X0 m ρ c (ix3 0 r k) : EReal)
    = Attention.latent x wdkv (batchOf r) (rowOf r) ⟨c.val * 64 + k.val, by have : c.val < 4 := c.isLt; omega⟩ := by
  unfold X0 Attention.latent
  rw [latent_apply, H.hx, H.hdkv]
  exact Finset.sum_congr rfl fun d _ => by rw [cols_apply]

theorem sent_key (k : Fin 64) (n : Fin 1024) : (X1 m ρ c (ix3 0 k n) : EReal)
    = wuk (ix2 ⟨c.val * 64 + k.val, by have : c.val < 4 := c.isLt; omega⟩ n) * Ideal.ofBits .f32 0x42800000#32 := by
  unfold X1
  rw [wuk_apply, H.huk, rowsOf_apply]

theorem sent_value (k : Fin 64) (n : Fin 1024) : (X2 m ρ c (ix3 0 k n) : EReal)
    = wuv (ix2 ⟨c.val * 64 + k.val, by have : c.val < 4 := c.isLt; omega⟩ n) := by
  unfold X2
  rw [wuv_apply, H.huv, rowsOf_apply]

/-- The keys, 64 times what they would be. -/
theorem keys_apply (r : Fin 512) (n : Fin 1024) : kOf m ρ c (ix2 r n)
    = ∑ j, Attention.latent x wdkv (batchOf r) (rowOf r) j * (wuk (ix2 j n) * Ideal.ofBits .f32 0x42800000#32) := by
  unfold kOf
  rw [key3_apply, key2_apply, key1_apply, key0_apply]
  simp only [sent_latent H, sent_key H]
  exact (all_four (fun e => ∑ k : Fin 64, Attention.latent x wdkv (batchOf r) (rowOf r) ⟨e.val * 64 + k.val, by have : e.val < 4 := e.isLt; omega⟩
    * (wuk (ix2 ⟨e.val * 64 + k.val, by have : e.val < 4 := e.isLt; omega⟩ n) * Ideal.ofBits .f32 0x42800000#32)) c).trans
    (Fin.sum_mul_add_fin 4 64 (fun j : Fin 256 => Attention.latent x wdkv (batchOf r) (rowOf r) j * (wuk (ix2 j n) * Ideal.ofBits .f32 0x42800000#32)))

/-- The values. -/
theorem values_apply (r : Fin 512) (n : Fin 1024) : vOf m ρ c (ix2 r n) = Attention.unfolded x wdkv wuv (batchOf r) (rowOf r) n := by
  unfold vOf
  rw [val3_apply, val2_apply, val1_apply, val0_apply]
  simp only [sent_latent H, sent_value H]
  exact (all_four (fun e => ∑ k : Fin 64, Attention.latent x wdkv (batchOf r) (rowOf r) ⟨e.val * 64 + k.val, by have : e.val < 4 := e.isLt; omega⟩
    * wuv (ix2 ⟨e.val * 64 + k.val, by have : e.val < 4 := e.isLt; omega⟩ n)) c).trans
    (Fin.sum_mul_add_fin 4 64 (fun j : Fin 256 => Attention.latent x wdkv (batchOf r) (rowOf r) j * wuv (ix2 j n)))

theorem queries_apply (r : Fin 512) (n : Fin 1024) : qOf m ρ c (ix2 r n) = Attention.projected x wq (batchOf r) (rowOf r) n := by
  unfold qOf
  rw [q_apply, H.hx, H.hq]
  exact Finset.sum_congr rfl fun d _ => by rw [rows_apply]

theorem ropeQ_apply (r : Fin 512) (n : Fin 512) : qrOf m ρ c (ix2 r n) = Attention.projected x wqr (batchOf r) (rowOf r) n := by
  unfold qrOf
  rw [qr_apply, H.hx, H.hqr]
  exact Finset.sum_congr rfl fun d _ => by rw [rows_apply]

theorem ropeK_apply (r : Fin 512) (n : Fin 32) : krOf m ρ c (ix2 r n) = Attention.projected x wkr (batchOf r) (rowOf r) n := by
  unfold krOf
  rw [kr_apply, H.hx, H.hkr]
  exact Finset.sum_congr rfl fun d _ => by rw [rows_apply]

/-- The weights of a head, -/
theorem weight_apply (b : Fin 2) (h : Fin 16) (s t : Fin 256) :
    headE (qOf m ρ c) (qrOf m ρ c) (krOf m ρ c) (kOf m ρ c) ⟨16 * b.val + h.val, by omega⟩ (ix2 s t)
      = Ideal.exp (Attention.scoreScaled x wdkv wuk wq wqr wkr b h s t) := by
  rw [headE_apply]
  simp only [queries_apply H, ropeQ_apply H, ropeK_apply H, keys_apply H]
  have hb : ∀ (u : Fin 256) (hlt : 256 * ((16 * b.val + h.val) / 16) + u.val < 512),
      batchOf ⟨256 * ((16 * b.val + h.val) / 16) + u.val, hlt⟩ = b ∧ rowOf ⟨256 * ((16 * b.val + h.val) / 16) + u.val, hlt⟩ = u := fun u hlt =>
    ⟨Fin.ext (by show (256 * ((16 * b.val + h.val) / 16) + u.val) / 256 = b.val; omega),
      Fin.ext (by show (256 * ((16 * b.val + h.val) / 16) + u.val) % 256 = u.val; omega)⟩
  have hc : ∀ w k, w * ((16 * b.val + h.val) % 16) + k = h.val * w + k := fun w k => by
    rw [mul_comm, show (16 * b.val + h.val) % 16 = h.val by omega]
  simp only [(hb _ _).1, (hb _ _).2, hc]
  rfl

/-- and the head. -/
theorem head_apply (b : Fin 2) (h : Fin 16) (s : Fin 256) (e : Fin 64) :
    headAt (qOf m ρ c) (qrOf m ρ c) (krOf m ρ c) (kOf m ρ c) (vOf m ρ c) ⟨16 * b.val + h.val, by omega⟩ (ix2 s e)
      = Attention.meanLate (Attention.scoreScaled x wdkv wuk wq wqr wkr b h s)
          (fun t => Attention.unfolded x wdkv wuv b t ⟨h.val * 64 + e.val, by omega⟩) := by
  rw [headAt_apply]
  simp only [weight_apply H, values_apply H]
  have hb : ∀ (u : Fin 256) (hlt : 256 * ((16 * b.val + h.val) / 16) + u.val < 512),
      batchOf ⟨256 * ((16 * b.val + h.val) / 16) + u.val, hlt⟩ = b ∧ rowOf ⟨256 * ((16 * b.val + h.val) / 16) + u.val, hlt⟩ = u := fun u hlt =>
    ⟨Fin.ext (by show (256 * ((16 * b.val + h.val) / 16) + u.val) / 256 = b.val; omega),
      Fin.ext (by show (256 * ((16 * b.val + h.val) / 16) + u.val) % 256 = u.val; omega)⟩
  have hc : ∀ w k, w * ((16 * b.val + h.val) % 16) + k = h.val * w + k := fun w k => by
    rw [mul_comm, show (16 * b.val + h.val) % 16 = h.val by omega]
  simp only [(hb _ _).1, (hb _ _).2, hc]
  rfl

/-- The gathered heads. -/
theorem heads_apply (b : Fin 2) (s : Fin 256) (j : Fin 1024) : headsOf m ρ c (ix2 ⟨b.val * 256 + s.val, by omega⟩ j)
    = Attention.meanLate (Attention.scoreScaled x wdkv wuk wq wqr wkr b (Attention.headOf j) s) (fun t => Attention.unfolded x wdkv wuv b t j) := by
  have hj : j = ⟨(Attention.headOf j).val * 64 + j.val % 64, by have := j.isLt; show j.val / 64 * 64 + j.val % 64 < 1024; omega⟩ :=
    Fin.ext (by show j.val = j.val / 64 * 64 + j.val % 64; omega)
  refine Eq.trans ?_ ((head_apply H c b (Attention.headOf j) s ⟨j.val % 64, by omega⟩).trans ?_)
  · unfold headsOf heads
    have hn : (⟨blk (ix2 ⟨b.val * 256 + s.val, by omega⟩ j), blk_lt _⟩ : Fin 32) = ⟨16 * b.val + (Attention.headOf j).val, by omega⟩ :=
      Fin.ext (by show 16 * ((b.val * 256 + s.val) / 256) + j.val / 64 = 16 * b.val + j.val / 64; omega)
    have hp : pos (ix2 ⟨b.val * 256 + s.val, by omega⟩ j) = ix2 s ⟨j.val % 64, by omega⟩ :=
      funext (Fin.forall_fin_two.2 ⟨Fin.ext (by show (b.val * 256 + s.val) % 256 = s.val; omega), rfl⟩)
    rw [hn, hp]
  · exact congrArg (fun i => Attention.meanLate _ fun t => Attention.unfolded x wdkv wuv b t i) hj.symm

/-- The result. -/
theorem outAt_apply (b : Fin 2) (s : Fin 256) (n : Fin 1024) :
    outAt (F := Ideal) m ρ c (ix3 b s n) = Attention.resultLate x wdkv wuk wuv wq wqr wkr wo b s n := by
  unfold outAt
  rw [out_apply, H.ho]
  exact Finset.sum_congr rfl fun j _ => by rw [heads_apply H]

end Cert.KernelProof
-- ==== Proof.RefValue.lean ====
/-
# The reference at an index

The reference's printed term, read at an index, is the attention of the whole arrays.
-/
module

public import proofs.«01_k».proof.Proof.Attention
public import proofs.«01_k».proof.Proof.Gen.ReferenceIdeal.Run
public import Idealize.ShloMosaic.Lib.Tactic.CleanTypes

@[expose] public section

noncomputable section

namespace Cert.RefValue

open Cert.ReferenceIdeal Cert.ReferenceIdeal.Gen
open Idealize.ShloMosaic

variable (m : (ℓ : Loc nD τ sig) → Buf (Elt Ideal) ℓ) (c : Dev nD)

theorem res_apply (b : Fin 2) (s : Fin 256) (n : Fin 1024) : Cert.ReferenceIdeal.Value.res_main_v29 (F := Ideal) m c (ix3 b s n)
    = Attention.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) b s n := by
  unfold Cert.ReferenceIdeal.Value.res_main_v29
  clean_types
  pointwise
  rfl

end Cert.RefValue
-- ==== Proof.Algebra.lean ====
/-
# The kernel computes the reference

Where the arrays the scores are made of hold real numbers, every device ends with the reference's result.
-/
module

public import proofs.«01_k».proof.Proof.Frames
public import proofs.«01_k».proof.Proof.KernelResult
public import proofs.«01_k».proof.Proof.RefValue

@[expose] public section

noncomputable section

namespace Cert.Algebra

open Idealize.ShloMosaic Idealize.SL.Sem
open Cert.KernelProof (Holds cols_apply rowsOf_apply outAt_apply)

attribute [local instance] Cert.Kernel.Gen.facts Cert.KernelIdeal.Gen.facts Cert.ReferenceIdeal.Gen.facts

/-! ## What the precondition says -/

/-- A value whose absolute value is below plus infinity is a real number. -/
theorem real_of_abs_lt (a : EReal) (h : max a (-a) < ⊤) : ∃ r : ℝ, a = r := by
  induction a with
  | bot => simp at h
  | coe r => exact ⟨r, rfl⟩
  | top => simp at h

theorem word_top : Ideal.ofBits .f32 0x7F800000#32 = ⊤ := by
  simp [Ideal.ofBits, Ideal.ieee]

/-- One component of the precondition. -/
theorem real_of_ones {s : Shape} (x : FVec Ideal s .f32) (h : (⟨0, ![]⟩ : Shape).BroadcastsInDim s (![] : Fin 0 → Fin s.rank))
    (ones : cmpf .olt (Host.absf x) (broadcastInDim s ![] h (constant (F := Ideal) ⟨0, ![]⟩ .f32 0x7F800000#32)) = fun _ => 1#1) :
    ∀ i, ∃ r : ℝ, x i = (r : EReal) := fun i => by
  have hi : BitVec.ofBool (decide (max (x i : EReal) (-(x i : EReal)) < Ideal.ofBits .f32 0x7F800000#32)) = 1#1 := congrFun ones i
  refine real_of_abs_lt (x i) ?_
  rw [← word_top]
  by_contra hn
  rw [decide_eq_false hn] at hi
  exact absurd hi (by decide)

theorem isReal_of {α : Type} {x : α → EReal} (h : ∀ i, ∃ r : ℝ, x i = r) : Attention.IsReal x := by
  choose r hr using h
  exact ⟨r, funext hr⟩

/-- A matrix holds real numbers when its blocks of columns do, -/
theorem real_of_cols (w : (⟨2, ![1024, 256]⟩ : Shape).Idx → EReal)
    (h : ∀ (c : Fin 4) i, ∃ r : ℝ, Layout.block ⟨2, ![1024, 64]⟩ ⟨2, ![1024, 256]⟩ 1 4 c w (by decide) i = r) : Attention.IsReal w :=
  isReal_of fun i => by
    obtain ⟨r, hr⟩ := h ⟨(i 1).val / 64, by have : (i 1).val < 256 := (i 1).isLt; omega⟩ (ix2 (i 0) ⟨(i 1).val % 64, Nat.mod_lt _ (by decide)⟩)
    refine ⟨r, hr ▸ ?_⟩
    rw [Layout.block_apply]
    refine congrArg w (funext (Fin.forall_fin_two.2 ⟨rfl, Fin.ext ?_⟩))
    show (i 1).val = (i 1).val / 64 * 64 + (i 1).val % 64
    omega

/-- or its blocks of rows. -/
theorem real_of_rows (w : (⟨2, ![256, 1024]⟩ : Shape).Idx → EReal)
    (h : ∀ (c : Fin 4) i, ∃ r : ℝ, Layout.block ⟨2, ![64, 1024]⟩ ⟨2, ![256, 1024]⟩ 0 4 c w (by decide) i = r) : Attention.IsReal w :=
  isReal_of fun i => by
    obtain ⟨r, hr⟩ := h ⟨(i 0).val / 64, by have : (i 0).val < 256 := (i 0).isLt; omega⟩ (ix2 ⟨(i 0).val % 64, Nat.mod_lt _ (by decide)⟩ (i 1))
    refine ⟨r, hr ▸ ?_⟩
    rw [Layout.block_apply]
    refine congrArg w (funext (Fin.forall_fin_two.2 ⟨Fin.ext ?_, rfl⟩))
    show (i 0).val = (i 0).val / 64 * 64 + (i 0).val % 64
    omega

/-! ## The claim -/

theorem algebraic : Cert.algebraic_KernelIdeal_ReferenceIdeal_pre_scores_finite_KernelIdeal := fun m g m' g' pre arg => by
  have H : Holds m g _ _ _ _ _ _ _ _ := {
    hx := fun c => (Cert.KernelProof.in0_eq m g c).trans (arg c).1
    hdkv := fun c => (Cert.KernelProof.in1_eq m g c).trans (arg c).2.1
    huk := fun c => (Cert.KernelProof.in2_eq m g c).trans (arg c).2.2.1
    huv := fun c => (Cert.KernelProof.in3_eq m g c).trans (arg c).2.2.2.1
    hq := fun c => (Cert.KernelProof.in4_eq m g c).trans (arg c).2.2.2.2.1
    hqr := fun c => (Cert.KernelProof.in5_eq m g c).trans (arg c).2.2.2.2.2.1
    hkr := fun c => (Cert.KernelProof.in6_eq m g c).trans (arg c).2.2.2.2.2.2.1
    ho := fun c => (Cert.KernelProof.in7_eq m g c).trans (arg c).2.2.2.2.2.2.2 }
  have eq : ∀ c : Dev Cert.KernelIdeal.nD, Cert.KernelProof.outAt (F := Ideal) m g c
      = Cert.ReferenceIdeal.Value.res_main_v29 (F := Ideal) m' (0 : Dev Cert.ReferenceIdeal.nD) := fun c => by
    have p := fun e => pre e
    have h0 := fun i => real_of_ones _ _ (p 0).1 i
    rw [(arg 0).1] at h0
    have h1 := fun e i => real_of_ones _ _ (p e).2.1 i
    simp only [(arg _).2.1] at h1
    have h2 := fun e i => real_of_ones _ _ (p e).2.2.1 i
    simp only [(arg _).2.2.1] at h2
    have h4 := fun i => real_of_ones _ _ (p 0).2.2.2.1 i
    rw [(arg 0).2.2.2.2.1] at h4
    have h5 := fun i => real_of_ones _ _ (p 0).2.2.2.2.1 i
    rw [(arg 0).2.2.2.2.2.1] at h5
    have h6 := fun i => real_of_ones _ _ (p 0).2.2.2.2.2 i
    rw [(arg 0).2.2.2.2.2.2.1] at h6
    funext i
    rw [show i = ix3 (i 0) (i 1) (i 2) from funext fun a => by fin_cases a <;> rfl]
    exact (outAt_apply H c _ _ _).trans ((Attention.result_eq _ _ _ _ _ _ _ _ (isReal_of h0) (real_of_cols _ h1)
      (real_of_rows _ h2) (isReal_of h4) (isReal_of h5) (isReal_of h6) _ _ _).trans (RefValue.res_apply m' 0 _ _ _).symm)
  exact ⟨Cert.ReferenceIdeal.Value.res_main_v29 (F := Ideal) m' (0 : Dev Cert.ReferenceIdeal.nD),
    (θ_run _ _ _).mono (fun r h c => ⟨(h.1 c).1.trans (eq c), (h.1 c).2⟩) (Frames.run_ideal m g),
    (θ_run _ _ _).mono (fun r h => h 0) (Cert.ReferenceIdeal.Value.run m' g')⟩

end Cert.Algebra
-- ==== Proof.lean ====
/-
# The claims about the kernel and the reference, together
-/
module

public import proofs.«01_k».proof.Defs
public import proofs.«01_k».proof.Proof.Frames
public import proofs.«01_k».proof.Proof.Algebra

@[expose] public section

noncomputable section

namespace Cert.Proof

theorem claim : Cert.Claim := ⟨Cert.Kernel.Gen.facts, Cert.KernelIdeal.Gen.facts, Cert.ReferenceIdeal.Gen.facts,
  inferInstance, inferInstance,
  Frames.frame_kernel, Frames.frame_ideal, Frames.frame_ideal_pre, Frames.frame_reference, Frames.frame_reference_pre, trivial,
  Algebra.algebraic⟩

end Cert.Proof

end
